-- ==== Defs.lean ====
def Pre_Kernel [hPre_in_table : Cert.Pre_in_table.Facts] (m : (ℓ : Loc Cert.Kernel.nD Cert.Kernel.τ Cert.Kernel.sig) → Buf (Elt Bits) ℓ) : Prop :=
  ∀ c : Dev Cert.Kernel.nD,
    (Cert.Pre_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_table : Cert.Pre_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_in_table_finite [hPre_in_table_finite : Cert.Pre_in_table_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_table_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_in_table_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_in_table_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_in_table_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_table_finite [hPre_in_table_finite : Cert.Pre_in_table_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_in_table_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_in_table_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_in_table_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] [hPre_in_table : Cert.Pre_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_table_finite [hKernelIdeal : Cert.KernelIdeal.Facts] [hPre_in_table_finite : Cert.Pre_in_table_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_table_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_table_finite [hReferenceIdeal : Cert.ReferenceIdeal.Facts] [hPre_in_table_finite : Cert.Pre_in_table_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_table_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv" .f32 0x3BA3D70A#32 ((200⁻¹ : ℝ) : EReal)

def algebraic_KernelIdeal_ReferenceIdeal_pre_in_table_finite [hKernelIdeal : Cert.KernelIdeal.Facts] [hReferenceIdeal : Cert.ReferenceIdeal.Facts] [hPre_in_table_finite : Cert.Pre_in_table_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_table_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_table : Cert.Pre_in_table.Facts) (hPre_in_table_finite : Cert.Pre_in_table_finite.Facts),
    quiescent_Kernel (hKernel := hKernel) (hPre_in_table := hPre_in_table)
    ∧ quiescent_KernelIdeal (hKernelIdeal := hKernelIdeal) (hPre_in_table := hPre_in_table)
    ∧ quiescent_KernelIdeal_pre_in_table_finite (hKernelIdeal := hKernelIdeal) (hPre_in_table_finite := hPre_in_table_finite)
    ∧ quiescent_ReferenceIdeal (hReferenceIdeal := hReferenceIdeal)
    ∧ quiescent_ReferenceIdeal_pre_in_table_finite (hReferenceIdeal := hReferenceIdeal) (hPre_in_table_finite := hPre_in_table_finite)
    ∧ preserves_Kernel_KernelIdeal
    ∧ algebraic_KernelIdeal_ReferenceIdeal_pre_in_table_finite (hKernelIdeal := hKernelIdeal) (hReferenceIdeal := hReferenceIdeal) (hPre_in_table_finite := hPre_in_table_finite)
-- ==== Pre_in_table.lean ====
abbrev S200 : Shape := ⟨1, ![200]⟩
abbrev S1000000x64 : Shape := ⟨2, ![1000000, 64]⟩
abbrev S1000000 : Shape := ⟨1, ![1000000]⟩
abbrev S_ : Shape := ⟨0, ![]⟩

class Facts : Prop where
  bcast_S_S200 : S_.BroadcastsInDim S200 (![] : Fin 0 → Fin S200.rank)

variable [Facts]

def fn {F : FTy → Type} [FloatOps F] (main_arg0 : IVec S200 32) (main_arg1 : FVec F S1000000x64 .f32) (main_arg2 : FVec F S1000000x64 .f32) (main_arg3 : FVec F S1000000 .f32) : IVec S200 1 :=
  let main_c : IVec S_ 32 := constantI S_ 32 0#32
  let main_v0 : IVec S200 32 := broadcastInDim S200 ![] bcast_S_S200 main_c
  let main_v1 : IVec S200 1 := cmpi .sge main_arg0 main_v0
  let main_c_0 : IVec S_ 32 := constantI S_ 32 999936#32
  let main_v2 : IVec S200 32 := broadcastInDim S200 ![] bcast_S_S200 main_c_0
  let main_v3 : IVec S200 1 := cmpi .slt main_arg0 main_v2
  let main_v4 : IVec S200 1 := andi main_v1 main_v3
  main_v4
-- ==== Pre_in_table_finite.lean ====
abbrev S200 : Shape := ⟨1, ![200]⟩
abbrev S1000000x64 : Shape := ⟨2, ![1000000, 64]⟩
abbrev S1000000 : Shape := ⟨1, ![1000000]⟩
abbrev S_ : Shape := ⟨0, ![]⟩

class Facts : Prop where
  bcast_S_S200 : S_.BroadcastsInDim S200 (![] : Fin 0 → Fin S200.rank)
  bcast_S_S1000000x64 : S_.BroadcastsInDim S1000000x64 (![] : Fin 0 → Fin S1000000x64.rank)
  bcast_S_S1000000 : S_.BroadcastsInDim S1000000 (![] : Fin 0 → Fin S1000000.rank)

variable [Facts]

def fn {F : FTy → Type} [FloatOps F] (main_arg0 : IVec S200 32) (main_arg1 : FVec F S1000000x64 .f32) (main_arg2 : FVec F S1000000x64 .f32) (main_arg3 : FVec F S1000000 .f32) : IVec S200 1 × IVec S1000000x64 1 × IVec S1000000x64 1 × IVec S1000000 1 :=
  let main_c : IVec S_ 32 := constantI S_ 32 0#32
  let main_v0 : IVec S200 32 := broadcastInDim S200 ![] bcast_S_S200 main_c
  let main_v1 : IVec S200 1 := cmpi .sge main_arg0 main_v0
  let main_c_0 : IVec S_ 32 := constantI S_ 32 999936#32
  let main_v2 : IVec S200 32 := broadcastInDim S200 ![] bcast_S_S200 main_c_0
  let main_v3 : IVec S200 1 := cmpi .slt main_arg0 main_v2
  let main_v4 : IVec S200 1 := andi main_v1 main_v3
  let main_v5 : FVec F S1000000x64 .f32 := Host.absf main_arg1
  let main_cst : FVec F S_ .f32 := constant S_ .f32 0x7F800000#32
  let main_v6 : FVec F S1000000x64 .f32 := broadcastInDim S1000000x64 ![] bcast_S_S1000000x64 main_cst
  let main_v7 : IVec S1000000x64 1 := cmpf .olt main_v5 main_v6
  let main_v8 : FVec F S1000000x64 .f32 := Host.absf main_arg2
  let main_cst_1 : FVec F S_ .f32 := constant S_ .f32 0x7F800000#32
  let main_v9 : FVec F S1000000x64 .f32 := broadcastInDim S1000000x64 ![] bcast_S_S1000000x64 main_cst_1
  let main_v10 : IVec S1000000x64 1 := cmpf .olt main_v8 main_v9
  let main_v11 : FVec F S1000000 .f32 := Host.absf main_arg3
  let main_cst_2 : FVec F S_ .f32 := constant S_ .f32 0x7F800000#32
  let main_v12 : FVec F S1000000 .f32 := broadcastInDim S1000000 ![] bcast_S_S1000000 main_cst_2
  let main_v13 : IVec S1000000 1 := cmpf .olt main_v11 main_v12
  (main_v4, main_v7, main_v10, main_v13)
-- ==== Kernel.lean ====
abbrev S200 : Shape := ⟨1, ![200]⟩
abbrev S1000000x64 : Shape := ⟨2, ![1000000, 64]⟩
abbrev S1000000 : Shape := ⟨1, ![1000000]⟩
abbrev S200x1 : Shape := ⟨2, ![200, 1]⟩
abbrev S_ : Shape := ⟨0, ![]⟩
abbrev S128 : Shape := ⟨1, ![128]⟩
abbrev S1x128 : Shape := ⟨2, ![1, 128]⟩
abbrev S200x128 : Shape := ⟨2, ![200, 128]⟩
abbrev S1x25600 : Shape := ⟨2, ![1, 25600]⟩
abbrev S64x1000000 : Shape := ⟨2, ![64, 1000000]⟩
abbrev S1x1000000 : Shape := ⟨2, ![1, 1000000]⟩
abbrev S1x1 : Shape := ⟨2, ![1, 1]⟩
abbrev S64x81920 : Shape := ⟨2, ![64, 81920]⟩
abbrev S1x81920 : Shape := ⟨2, ![1, 81920]⟩
abbrev S64x1 : Shape := ⟨2, ![64, 1]⟩
abbrev S64x25600 : Shape := ⟨2, ![64, 25600]⟩
abbrev S2 : Shape := ⟨1, ![2]⟩
abbrev S1 : Shape := ⟨1, ![1]⟩
abbrev S64x128 : Shape := ⟨2, ![64, 128]⟩
abbrev S64 : Shape := ⟨1, ![64]⟩
abbrev S1x1x81920 : Shape := ⟨3, ![1, 1, 81920]⟩
abbrev S1x1x1 : Shape := ⟨3, ![1, 1, 1]⟩

abbrev nBuf : Space → Nat
  | .hbm => 39
  | .vmem => 13
  | .smem => 4
  | _ => 0

abbrev bufTy : (tb : Table) → Fin (tcTables nBuf tb) → BufTy
  | .hbm, ⟨0, _⟩ => ⟨S1000000x64, .f32⟩
  | .hbm, ⟨1, _⟩ => ⟨S1000000x64, .f32⟩
  | .hbm, ⟨2, _⟩ => ⟨S1000000, .f32⟩
  | .hbm, ⟨3, _⟩ => ⟨S200x1, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S200x1, .i32⟩
  | .hbm, ⟨11, _⟩ => ⟨S200x1, .i32⟩
  | .hbm, ⟨12, _⟩ => ⟨S_, .i32⟩
  | .hbm, ⟨13, _⟩ => ⟨S200x1, .i32⟩
  | .hbm, ⟨14, _⟩ => ⟨S200x1, .i1⟩
  | .hbm, ⟨15, _⟩ => ⟨S_, .i32⟩
  | .hbm, ⟨16, _⟩ => ⟨S200x1, .i32⟩
  | .hbm, ⟨17, _⟩ => ⟨S200x1, .i1⟩
  | .hbm, ⟨18, _⟩ => ⟨S_, .i32⟩
  | .hbm, ⟨19, _⟩ => ⟨S_, .i1⟩
  | .hbm, ⟨20, _⟩ => ⟨S200x1, .i1⟩
  | .hbm, ⟨21, _⟩ => ⟨S200x1, .i1⟩
  | .hbm, ⟨22, _⟩ => ⟨S200x1, .i1⟩
  | .hbm, ⟨23, _⟩ => ⟨S200x1, .i32⟩
  | .hbm, ⟨24, _⟩ => ⟨S200x1, .i32⟩
  | .hbm, ⟨25, _⟩ => ⟨S200x1, .i32⟩
  | .hbm, ⟨26, _⟩ => ⟨S128, .i32⟩
  | .hbm, ⟨27, _⟩ => ⟨S1x128, .i32⟩
  | .hbm, ⟨28, _⟩ => ⟨S200x128, .i32⟩
  | .hbm, ⟨29, _⟩ => ⟨S200x128, .i32⟩
  | .hbm, ⟨30, _⟩ => ⟨S200x128, .i1⟩
  | .hbm, ⟨31, _⟩ => ⟨S200x128, .f32⟩
  | .hbm, ⟨32, _⟩ => ⟨S1x25600, .f32⟩
  | .hbm, ⟨33, _⟩ => ⟨S64x1000000, .f32⟩
  | .hbm, ⟨34, _⟩ => ⟨S64x1000000, .f32⟩
  | .hbm, ⟨35, _⟩ => ⟨S1x1000000, .f32⟩
  | .hbm, ⟨36, _⟩ => ⟨S1x1000000, .f32⟩
  | .hbm, ⟨37, _⟩ => ⟨S1x1, .f32⟩
  | .hbm, ⟨38, _⟩ => ⟨S1x1000000, .f32⟩
  | .local _ .vmem, ⟨0, _⟩ => ⟨S1x25600, .f32⟩
  | .local _ .vmem, ⟨1, _⟩ => ⟨S64x81920, .f32⟩
  | .local _ .vmem, ⟨2, _⟩ => ⟨S64x81920, .f32⟩
  | .local _ .vmem, ⟨3, _⟩ => ⟨S1x81920, .f32⟩
  | .local _ .vmem, ⟨4, _⟩ => ⟨S1x81920, .f32⟩
  | .local _ .vmem, ⟨5, _⟩ => ⟨S1x81920, .f32⟩
  | .local _ .vmem, ⟨6, _⟩ => ⟨S1x81920, .f32⟩
  | .local _ .vmem, ⟨7, _⟩ => ⟨S64x1, .f32⟩
  | .local _ .vmem, ⟨8, _⟩ => ⟨S64x25600, .f32⟩
  | .local _ .vmem, ⟨9, _⟩ => ⟨S1x81920, .f32⟩
  | .local _ .vmem, ⟨10, _⟩ => ⟨S1x81920, .f32⟩
  | .local _ .vmem, ⟨11, _⟩ => ⟨S1x81920, .f32⟩
  | .local _ .vmem, ⟨12, _⟩ => ⟨S1x81920, .f32⟩
  | .local _ .smem, ⟨0, _⟩ => ⟨S200, .i32⟩
  | .local _ .smem, ⟨1, _⟩ => ⟨S1x1, .f32⟩
  | .local _ .smem, ⟨2, _⟩ => ⟨S2, .f32⟩
  | .local _ .smem, ⟨3, _⟩ => ⟨S1x1, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12_0 : Ref sig .tc := ⟨.hbm, 36, rfl⟩
abbrev main_v12_1 : Ref sig .tc := ⟨.hbm, 37, rfl⟩
abbrev main_v13 : Ref sig .tc := ⟨.hbm, 38, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_stg4_0 : Ref sig .tc := ⟨.smem, 1, rfl⟩
abbrev cc0_scratch2 : Ref sig .tc := ⟨.smem, 2, rfl⟩
abbrev cc1_stg1_0 : Ref sig .tc := ⟨.smem, 3, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![13], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_17 : BitVec 32 := 0#32
  let c200_i32 : BitVec 32 := 200#32
  let v46 : BitVec 32 := Scalar.addi c0_i32_17 c200_i32
  let c1_i32 : BitVec 32 := 1#32
  ⟨c0_i32_17, v46, c1_i32⟩
def k0_off1 (k0_t1 : Fin k0_t1_loop.trips) : Fin 1 → Nat :=
  let c0_i32_17 : BitVec 32 := 0#32
  let c1_i32 : BitVec 32 := 1#32
  let arg12 : BitVec 32 := Scf.iv c0_i32_17 c1_i32 k0_t1
  let v62 : Index := Scalar.indexCast arg12
  ![v62.toNat]
def k0_mult1 (v63 : BitVec 32) : BitVec 32 :=
  let c0_i32_35 : BitVec 32 := 0#32
  let v65 : BitVec 1 := Scalar.cmpi .sgt v63 c0_i32_35
  let v66 : BitVec 32 := Scalar.extui v65
  let c0_i32_36 : BitVec 32 := 0#32
  let v67 : BitVec 1 := Scalar.cmpi .slt v63 c0_i32_36
  let v68 : BitVec 32 := Scalar.extui v67
  let v69 : BitVec 32 := Scalar.subi v66 v68
  let c128_i32 : BitVec 32 := 128#32
  let c0_i32_37 : BitVec 32 := 0#32
  let v70 : BitVec 1 := Scalar.cmpi .sgt c128_i32 c0_i32_37
  let v71 : BitVec 32 := Scalar.extui v70
  let c0_i32_38 : BitVec 32 := 0#32
  let v72 : BitVec 1 := Scalar.cmpi .slt c128_i32 c0_i32_38
  let v73 : BitVec 32 := Scalar.extui v72
  let v74 : BitVec 32 := Scalar.subi v71 v73
  let v75 : BitVec 1 := Scalar.cmpi .ne v69 v74
  let v76 : BitVec 32 := Scalar.remsi v63 c128_i32
  let c0_i32_39 : BitVec 32 := 0#32
  let v77 : BitVec 1 := Scalar.cmpi .ne v76 c0_i32_39
  let v78 : BitVec 1 := Scalar.andi v75 v77
  let v64 : BitVec 32 := Scalar.divsi v63 c128_i32
  let c1_i32_40 : BitVec 32 := 1#32
  let v79 : BitVec 32 := Scalar.subi v64 c1_i32_40
  let v80 : BitVec 32 := Scalar.select v78 v79 v64
  let c128_i32_41 : BitVec 32 := 128#32
  let v81 : BitVec 32 := Scalar.muli v80 c128_i32_41
  v81

def k0_mult2 (k0_t1 : Fin k0_t1_loop.trips) : BitVec 32 :=
  let c128_i32_42 : BitVec 32 := 128#32
  let c0_i32_17 : BitVec 32 := 0#32
  let c1_i32 : BitVec 32 := 1#32
  let arg12 : BitVec 32 := Scf.iv c0_i32_17 c1_i32 k0_t1
  let v83 : BitVec 32 := Scalar.muli c128_i32_42 arg12
  v83
def k0_off2 (k0_t1 : Fin k0_t1_loop.trips) : Fin 2 → Nat :=
  let c0_i32_43 : BitVec 32 := 0#32
  let c128_i32_42 : BitVec 32 := 128#32
  let c0_i32_17 : BitVec 32 := 0#32
  let c1_i32 : BitVec 32 := 1#32
  let arg12 : BitVec 32 := Scf.iv c0_i32_17 c1_i32 k0_t1
  let v83 : BitVec 32 := Scalar.muli c128_i32_42 arg12
  let v84 : BitVec 32 := v83
  ![0, v84.toNat]
def k0_off3 (v63 : BitVec 32) : Fin 2 → Nat :=
  let c0_i32_44 : BitVec 32 := 0#32
  let c0_i32_35 : BitVec 32 := 0#32
  let v65 : BitVec 1 := Scalar.cmpi .sgt v63 c0_i32_35
  let v66 : BitVec 32 := Scalar.extui v65
  let c0_i32_36 : BitVec 32 := 0#32
  let v67 : BitVec 1 := Scalar.cmpi .slt v63 c0_i32_36
  let v68 : BitVec 32 := Scalar.extui v67
  let v69 : BitVec 32 := Scalar.subi v66 v68
  let c128_i32 : BitVec 32 := 128#32
  let c0_i32_37 : BitVec 32 := 0#32
  let v70 : BitVec 1 := Scalar.cmpi .sgt c128_i32 c0_i32_37
  let v71 : BitVec 32 := Scalar.extui v70
  let c0_i32_38 : BitVec 32 := 0#32
  let v72 : BitVec 1 := Scalar.cmpi .slt c128_i32 c0_i32_38
  let v73 : BitVec 32 := Scalar.extui v72
  let v74 : BitVec 32 := Scalar.subi v71 v73
  let v75 : BitVec 1 := Scalar.cmpi .ne v69 v74
  let v76 : BitVec 32 := Scalar.remsi v63 c128_i32
  let c0_i32_39 : BitVec 32 := 0#32
  let v77 : BitVec 1 := Scalar.cmpi .ne v76 c0_i32_39
  let v78 : BitVec 1 := Scalar.andi v75 v77
  let v64 : BitVec 32 := Scalar.divsi v63 c128_i32
  let c1_i32_40 : BitVec 32 := 1#32
  let v79 : BitVec 32 := Scalar.subi v64 c1_i32_40
  let v80 : BitVec 32 := Scalar.select v78 v79 v64
  let c128_i32_41 : BitVec 32 := 128#32
  let v81 : BitVec 32 := Scalar.muli v80 c128_i32_41
  let v82 : BitVec 32 := v81
  ![0, v82.toNat]

def k0_chk1 (i : grid0.Coords) (v63 : BitVec 32) : Prop :=
  (∀ (k0_h1 : k0_cond1 i = 1#1), 128 ∣ (k0_mult1 v63).toNat) ∧
  (∀ (k0_h1 : k0_cond1 i = 1#1), ∀ a, (k0_off3 v63) a + S64x128.size a ≤ S64x1000000.size a)
theorem k0_mult1_dvd : ∀ (i : grid0.Coords) (v63 : BitVec 32) (k0_hw1 : k0_chk1 i v63), ∀ (k0_h1 : k0_cond1 i = 1#1), 128 ∣ (k0_mult1 v63).toNat := fun i v63 k0_hw1 k0_h1 => k0_hw1.1 k0_h1
theorem k0_off3_inb : ∀ (i : grid0.Coords) (v63 : BitVec 32) (k0_hw1 : k0_chk1 i v63), ∀ (k0_h1 : k0_cond1 i = 1#1), ∀ a, (k0_off3 v63) a + S64x128.size a ≤ S64x1000000.size a := fun i v63 k0_hw1 k0_h1 => k0_hw1.2 k0_h1

@[reducible] def k0_t2_loop : Scf.Loop 32 :=
  let c0_i32_19 : BitVec 32 := 0#32
  let c200_i32_20 : BitVec 32 := 200#32
  let v47 : BitVec 32 := Scalar.addi c0_i32_19 c200_i32_20
  let c1_i32_21 : BitVec 32 := 1#32
  ⟨c0_i32_19, v47, c1_i32_21⟩
def k0_off4 (k0_t2 : Fin k0_t2_loop.trips) : Fin 1 → Nat :=
  let c0_i32_19 : BitVec 32 := 0#32
  let c1_i32_21 : BitVec 32 := 1#32
  let arg12 : BitVec 32 := Scf.iv c0_i32_19 c1_i32_21 k0_t2
  let v62 : Index := Scalar.indexCast arg12
  ![v62.toNat]
def k0_mult3 (v63 : BitVec 32) : BitVec 32 :=
  let c0_i32_35 : BitVec 32 := 0#32
  let v65 : BitVec 1 := Scalar.cmpi .sgt v63 c0_i32_35
  let v66 : BitVec 32 := Scalar.extui v65
  let c0_i32_36 : BitVec 32 := 0#32
  let v67 : BitVec 1 := Scalar.cmpi .slt v63 c0_i32_36
  let v68 : BitVec 32 := Scalar.extui v67
  let v69 : BitVec 32 := Scalar.subi v66 v68
  let c128_i32 : BitVec 32 := 128#32
  let c0_i32_37 : BitVec 32 := 0#32
  let v70 : BitVec 1 := Scalar.cmpi .sgt c128_i32 c0_i32_37
  let v71 : BitVec 32 := Scalar.extui v70
  let c0_i32_38 : BitVec 32 := 0#32
  let v72 : BitVec 1 := Scalar.cmpi .slt c128_i32 c0_i32_38
  let v73 : BitVec 32 := Scalar.extui v72
  let v74 : BitVec 32 := Scalar.subi v71 v73
  let v75 : BitVec 1 := Scalar.cmpi .ne v69 v74
  let v76 : BitVec 32 := Scalar.remsi v63 c128_i32
  let c0_i32_39 : BitVec 32 := 0#32
  let v77 : BitVec 1 := Scalar.cmpi .ne v76 c0_i32_39
  let v78 : BitVec 1 := Scalar.andi v75 v77
  let v64 : BitVec 32 := Scalar.divsi v63 c128_i32
  let c1_i32_40 : BitVec 32 := 1#32
  let v79 : BitVec 32 := Scalar.subi v64 c1_i32_40
  let v80 : BitVec 32 := Scalar.select v78 v79 v64
  let c128_i32_41 : BitVec 32 := 128#32
  let v81 : BitVec 32 := Scalar.muli v80 c128_i32_41
  v81

def k0_mult4 (k0_t2 : Fin k0_t2_loop.trips) : BitVec 32 :=
  let c128_i32_42 : BitVec 32 := 128#32
  let c0_i32_19 : BitVec 32 := 0#32
  let c1_i32_21 : BitVec 32 := 1#32
  let arg12 : BitVec 32 := Scf.iv c0_i32_19 c1_i32_21 k0_t2
  let v83 : BitVec 32 := Scalar.muli c128_i32_42 arg12
  v83
def k0_off5 (k0_t2 : Fin k0_t2_loop.trips) : Fin 2 → Nat :=
  let c0_i32_43 : BitVec 32 := 0#32
  let c128_i32_42 : BitVec 32 := 128#32
  let c0_i32_19 : BitVec 32 := 0#32
  let c1_i32_21 : BitVec 32 := 1#32
  let arg12 : BitVec 32 := Scf.iv c0_i32_19 c1_i32_21 k0_t2
  let v83 : BitVec 32 := Scalar.muli c128_i32_42 arg12
  let v84 : BitVec 32 := v83
  ![0, v84.toNat]
def k0_off6 (v63 : BitVec 32) : Fin 2 → Nat :=
  let c0_i32_44 : BitVec 32 := 0#32
  let c0_i32_35 : BitVec 32 := 0#32
  let v65 : BitVec 1 := Scalar.cmpi .sgt v63 c0_i32_35
  let v66 : BitVec 32 := Scalar.extui v65
  let c0_i32_36 : BitVec 32 := 0#32
  let v67 : BitVec 1 := Scalar.cmpi .slt v63 c0_i32_36
  let v68 : BitVec 32 := Scalar.extui v67
  let v69 : BitVec 32 := Scalar.subi v66 v68
  let c128_i32 : BitVec 32 := 128#32
  let c0_i32_37 : BitVec 32 := 0#32
  let v70 : BitVec 1 := Scalar.cmpi .sgt c128_i32 c0_i32_37
  let v71 : BitVec 32 := Scalar.extui v70
  let c0_i32_38 : BitVec 32 := 0#32
  let v72 : BitVec 1 := Scalar.cmpi .slt c128_i32 c0_i32_38
  let v73 : BitVec 32 := Scalar.extui v72
  let v74 : BitVec 32 := Scalar.subi v71 v73
  let v75 : BitVec 1 := Scalar.cmpi .ne v69 v74
  let v76 : BitVec 32 := Scalar.remsi v63 c128_i32
  let c0_i32_39 : BitVec 32 := 0#32
  let v77 : BitVec 1 := Scalar.cmpi .ne v76 c0_i32_39
  let v78 : BitVec 1 := Scalar.andi v75 v77
  let v64 : BitVec 32 := Scalar.divsi v63 c128_i32
  let c1_i32_40 : BitVec 32 := 1#32
  let v79 : BitVec 32 := Scalar.subi v64 c1_i32_40
  let v80 : BitVec 32 := Scalar.select v78 v79 v64
  let c128_i32_41 : BitVec 32 := 128#32
  let v81 : BitVec 32 := Scalar.muli v80 c128_i32_41
  let v82 : BitVec 32 := v81
  ![0, v82.toNat]

def k0_chk2 (i : grid0.Coords) (v63 : BitVec 32) : Prop :=
  (∀ (k0_h1 : k0_cond1 i = 1#1), 128 ∣ (k0_mult3 v63).toNat) ∧
  (∀ (k0_h1 : k0_cond1 i = 1#1), ∀ a, (k0_off6 v63) a + S64x128.size a ≤ S64x1000000.size a)
theorem k0_mult3_dvd : ∀ (i : grid0.Coords) (v63 : BitVec 32) (k0_hw2 : k0_chk2 i v63), ∀ (k0_h1 : k0_cond1 i = 1#1), 128 ∣ (k0_mult3 v63).toNat := fun i v63 k0_hw2 k0_h1 => k0_hw2.1 k0_h1
theorem k0_off6_inb : ∀ (i : grid0.Coords) (v63 : BitVec 32) (k0_hw2 : k0_chk2 i v63), ∀ (k0_h1 : k0_cond1 i = 1#1), ∀ a, (k0_off6 v63) a + S64x128.size a ≤ S64x1000000.size a := fun i v63 k0_hw2 k0_h1 => k0_hw2.2 k0_h1

def k0_cond2 (i : grid0.Coords) : BitVec 1 :=
  let arg0 : BitVec 32 := BitVec.ofNat 32 (i 0).val
  let c12_i32 : BitVec 32 := 12#32
  let v43 : BitVec 1 := Scalar.cmpi .eq arg0 c12_i32
  let v44 : BitVec 32 := Scalar.extui v43
  let c0_i32_16 : BitVec 32 := 0#32
  let v45 : BitVec 1 := Scalar.cmpi .ne v44 c0_i32_16
  v45

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x25600 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x81920 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x81920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x81920 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![13], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1x81920 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .smem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x81920 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== KernelIdeal.lean ====
variable {F : FTy → Type} [FloatOps F] [Named F]
def κ : String → Option EReal := fun
  | "inv" => some ((200⁻¹ : ℝ) : EReal)
  | _ => none
-- ==== ReferenceIdeal.lean ====
abbrev S200 : Shape := ⟨1, ![200]⟩
abbrev S1000000x64 : Shape := ⟨2, ![1000000, 64]⟩
abbrev S1000000 : Shape := ⟨1, ![1000000]⟩
abbrev S_ : Shape := ⟨0, ![]⟩
abbrev S200x1 : Shape := ⟨2, ![200, 1]⟩
abbrev S1 : Shape := ⟨1, ![1]⟩
abbrev S1x1 : Shape := ⟨2, ![1, 1]⟩
abbrev S200x64 : Shape := ⟨2, ![200, 64]⟩
abbrev S64 : Shape := ⟨1, ![64]⟩
abbrev S1x64 : Shape := ⟨2, ![1, 64]⟩
abbrev S64x1000000 : Shape := ⟨2, ![64, 1000000]⟩
abbrev S1x1000000 : Shape := ⟨2, ![1, 1000000]⟩

abbrev nBuf : Space → Nat
  | .hbm => 52
  | .vmem => 0
  | .smem => 0
  | _ => 0

abbrev bufTy : (tb : Table) → Fin (tcTables nBuf tb) → BufTy
  | .hbm, ⟨0, _⟩ => ⟨S200, .i32⟩
  | .hbm, ⟨1, _⟩ => ⟨S1000000x64, .f32⟩
  | .hbm, ⟨2, _⟩ => ⟨S1000000x64, .f32⟩
  | .hbm, ⟨3, _⟩ => ⟨S1000000, .f32⟩
  | .hbm, ⟨4, _⟩ => ⟨S_, .i32⟩
  | .hbm, ⟨5, _⟩ => ⟨S200, .i32⟩
  | .hbm, ⟨6, _⟩ => ⟨S200, .i1⟩
  | .hbm, ⟨7, _⟩ => ⟨S_, .i32⟩
  | .hbm, ⟨8, _⟩ => ⟨S200, .i32⟩
  | .hbm, ⟨9, _⟩ => ⟨S200, .i32⟩
  | .hbm, ⟨10, _⟩ => ⟨S200, .i32⟩
  | .hbm, ⟨11, _⟩ => ⟨S200x1, .i32⟩
  | .hbm, ⟨12, _⟩ => ⟨S1, .i32⟩
  | .hbm, ⟨13, _⟩ => ⟨S_, .i32⟩
  | .hbm, ⟨14, _⟩ => ⟨S200x1, .i32⟩
  | .hbm, ⟨15, _⟩ => ⟨S200x1, .i1⟩
  | .hbm, ⟨16, _⟩ => ⟨S1x1, .i32⟩
  | .hbm, ⟨17, _⟩ => ⟨S200x1, .i32⟩
  | .hbm, ⟨18, _⟩ => ⟨S200x1, .i1⟩
  | .hbm, ⟨19, _⟩ => ⟨S200x1, .i1⟩
  | .hbm, ⟨20, _⟩ => ⟨S_, .i1⟩
  | .hbm, ⟨21, _⟩ => ⟨S200, .i1⟩
  | .hbm, ⟨22, _⟩ => ⟨S200x64, .f32⟩
  | .hbm, ⟨23, _⟩ => ⟨S200x64, .i1⟩
  | .hbm, ⟨24, _⟩ => ⟨S_, .f32⟩
  | .hbm, ⟨25, _⟩ => ⟨S200x64, .f32⟩
  | .hbm, ⟨26, _⟩ => ⟨S200x64, .f32⟩
  | .hbm, ⟨27, _⟩ => ⟨S_, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S1x64, .f32⟩
  | .hbm, ⟨33, _⟩ => ⟨S64x1000000, .f32⟩
  | .hbm, ⟨34, _⟩ => ⟨S1x1000000, .f32⟩
  | .hbm, ⟨35, _⟩ => ⟨S1x1000000, .f32⟩
  | .hbm, ⟨36, _⟩ => ⟨S1x1000000, .f32⟩
  | .hbm, ⟨37, _⟩ => ⟨S_, .f32⟩
  | .hbm, ⟨38, _⟩ => ⟨S1, .f32⟩
  | .hbm, ⟨39, _⟩ => ⟨S_, .f32⟩
  | .hbm, ⟨40, _⟩ => ⟨S1, .f32⟩
  | .hbm, ⟨41, _⟩ => ⟨S1, .f32⟩
  | .hbm, ⟨42, _⟩ => ⟨S1x1, .f32⟩
  | .hbm, ⟨43, _⟩ => ⟨S1x1000000, .f32⟩
  | .hbm, ⟨44, _⟩ => ⟨S1x1000000, .f32⟩
  | .hbm, ⟨45, _⟩ => ⟨S1x1000000, .f32⟩
  | .hbm, ⟨46, _⟩ => ⟨S_, .f32⟩
  | .hbm, ⟨47, _⟩ => ⟨S1, .f32⟩
  | .hbm, ⟨48, _⟩ => ⟨S1x1, .f32⟩
  | .hbm, ⟨49, _⟩ => ⟨S1x1, .f32⟩
  | .hbm, ⟨50, _⟩ => ⟨S1x1000000, .f32⟩
  | .hbm, ⟨51, _⟩ => ⟨S1x1000000, .f32⟩
  | _, _ => ⟨S200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_cst_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_call1_cst : Ref sig .tc := ⟨.hbm, 37, rfl⟩
abbrev main_call1_v0 : Ref sig .tc := ⟨.hbm, 38, rfl⟩
abbrev main_call1_cst_0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_cst_1 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_v9 : Ref sig .tc := ⟨.hbm, 51, rfl⟩

abbrev nD : Nat := 1
abbrev τ : Topo := Topo.v7x

variable {F : FTy → Type} [FloatOps F]
-- ==== Proof.Pre.lean ====
/- The range precondition, read at one element. -/
module

public import proofs.«01_k».proof.Pre_in_table
public import Idealize.ShloMosaic.Lib.StableHlo.Predicate
public import Idealize.ShloMosaic.PureOps.Ideal
public import Idealize.ShloMosaic.Lib.Decide

@[expose] public section

noncomputable section

namespace Cert.Proof.Pre

open Idealize.ShloMosaic Idealize.ShloMosaic.StableHlo.Predicate

/-- The predicate's shapes are as it says. -/
instance factsTable : Cert.Pre_in_table.Facts where
  bcast_S_S200 := by decide

/-- Two bits whose conjunction is set are both set. -/
theorem andi_one {x y : BitVec 1} (h : IntOp.andi x y = 1#1) : x = 1#1 ∧ y = 1#1 := by
  revert h; revert x y; decide

/-- A word that is, read signed, at least 0 and below 999936 is below 999936 read unsigned. -/
theorem word_range {w : BitVec 32} (h : IntOp.andi (IntOp.cmpi .sge w 0#32) (IntOp.cmpi .slt w 999936#32) = 1#1) : w.toNat < 999936 := by
  obtain ⟨h0, h1⟩ := andi_one h
  simp only [IntOp.cmpi, ofBool_eq_one_iff, BitVec.sle, BitVec.slt, decide_eq_true_eq] at h0 h1
  have e0 : (0#32 : BitVec 32).toInt = 0 := by decide
  have e1 : (999936#32 : BitVec 32).toInt = 999936 := by decide
  rw [e0] at h0; rw [e1] at h1
  have hw := BitVec.toInt_eq_toNat_cond w
  have hlt := w.isLt
  split at hw <;> omega

variable {F : FTy → Type} [FloatOps F]

/-- Where the predicate holds, every index is below 999936. -/
theorem table_range {a0 : IVec Cert.Pre_in_table.S200 32} {a1 a2 : FVec F Cert.Pre_in_table.S1000000x64 .f32} {a3 : FVec F Cert.Pre_in_table.S1000000 .f32}
    (h : Cert.Pre_in_table.fn (F := F) a0 a1 a2 a3 = fun _ => 1#1) (j : Cert.Pre_in_table.S200.Idx) : (a0 j).toNat < 999936 :=
  word_range (congrFun h j)

end Cert.Proof.Pre

end
-- ==== Proof.KernelIdeal.Words.lean ====
/- The words the gather computes: where a trip's copy reads and writes, and that the copy of a table index in
    range passes the kernel's own check. -/
module

public import Idealize.ShloMosaic.PureOps.Ideal
public import proofs.«01_k».proof.Proof.Gen.KernelIdeal
public import proofs.«01_k».proof.Proof.Gen.KernelIdeal.Skeleton

@[expose] public section

set_option maxRecDepth 8192

noncomputable section

namespace Cert.Proof.KernelIdeal

open Cert.KernelIdeal
open Idealize.ShloMosaic

/-- The issue loop runs 200 trips. -/
theorem trips1 : k0_t1_loop.trips = 200 := by decide
/-- So does the drain loop. -/
theorem trips2 : k0_t2_loop.trips = 200 := by decide

/-- The loop counter's word. -/
theorem iv_toNat (k : ℕ) (hk : k < 200) : (Scf.iv (0#32) (1#32) k).toNat = k := by
  simp only [Scf.iv, BitVec.toNat_add, BitVec.toNat_mul, BitVec.toNat_ofNat]; omega

/-- Trip `k` of the issue loop reads index `k`. -/
theorem off1_eq (k : Fin k0_t1_loop.trips) : k0_off1 k = ![k.val] := by
  have hk : k.val < 200 := lt_of_lt_of_eq k.isLt trips1
  show ![(Scf.iv (0#32) (1#32) k.val).toNat] = _
  rw [iv_toNat _ hk]

/-- Trip `k` of the drain loop reads index `k`. -/
theorem off4_eq (k : Fin k0_t2_loop.trips) : k0_off4 k = ![k.val] := by
  have hk : k.val < 200 := lt_of_lt_of_eq k.isLt trips2
  show ![(Scf.iv (0#32) (1#32) k.val).toNat] = _
  rw [iv_toNat _ hk]

/-- Trip `k` of the issue loop writes the columns from `128 * k` on. -/
theorem off2_eq (k : Fin k0_t1_loop.trips) : k0_off2 k = ![0, 128 * k.val] := by
  have hk : k.val < 200 := lt_of_lt_of_eq k.isLt trips1
  show ![0, (128#32 * Scf.iv (0#32) (1#32) k.val).toNat] = _
  rw [BitVec.toNat_mul, iv_toNat _ hk, BitVec.toNat_ofNat]
  congr 1; congr 1; omega

/-- Trip `k` of the drain loop waits for the columns from `128 * k` on. -/
theorem off5_eq (k : Fin k0_t2_loop.trips) : k0_off5 k = ![0, 128 * k.val] := by
  have hk : k.val < 200 := lt_of_lt_of_eq k.isLt trips2
  show ![0, (128#32 * Scf.iv (0#32) (1#32) k.val).toNat] = _
  rw [BitVec.toNat_mul, iv_toNat _ hk, BitVec.toNat_ofNat]
  congr 1; congr 1; omega

/-- A non-negative word rounded down to a multiple of 128, as the kernel spells the rounding. -/
theorem mult1_toNat (v : BitVec 32) (h : v.toNat < 2 ^ 31) : (k0_mult1 v).toNat = 128 * (v.toNat / 128) := by
  have hm : v.msb = false := by rw [BitVec.msb_eq_false_iff_two_mul_lt]; omega
  have hdiv : Scalar.divsi v 128#32 = BitVec.ofNat 32 (v.toNat / 128) := by
    show IntOp.divsi .scalar v 128#32 = _
    unfold IntOp.divsi
    rw [if_neg (by unfold IntOp.SDivCorner; rintro (h | ⟨-, h⟩) <;> revert h <;> decide)]
    rw [BitVec.sdiv_eq, hm, show (128#32).msb = false by decide]
    apply BitVec.eq_of_toNat_eq
    show (v.udiv 128#32).toNat = _
    rw [BitVec.udiv_eq, BitVec.toNat_udiv, BitVec.toNat_ofNat, BitVec.toNat_ofNat, Nat.mod_eq_of_lt (show 128 < 2 ^ 32 by norm_num),
      Nat.mod_eq_of_lt (show v.toNat / 128 < 2 ^ 32 by omega)]
  have hsel : ∀ a b : BitVec 32, Scalar.select (Scalar.andi (Scalar.cmpi .ne (Scalar.subi (Scalar.extui (Scalar.cmpi .sgt v 0#32)) (Scalar.extui (Scalar.cmpi .slt v 0#32)))
      (Scalar.subi (Scalar.extui (Scalar.cmpi .sgt (128#32) 0#32)) (Scalar.extui (Scalar.cmpi .slt (128#32) 0#32)))) (Scalar.cmpi .ne (Scalar.remsi v 128#32) 0#32)) a b = b := by
    intro a b
    have hlt : Scalar.cmpi .slt v 0#32 = 0#1 := by
      show BitVec.ofBool (v.slt 0#32) = _
      rw [show v.slt 0#32 = false by
        rw [BitVec.slt_zero_eq_msb, hm]]; rfl
    by_cases hv : v = 0#32
    · subst hv; rfl
    · have hgt : Scalar.cmpi .sgt v 0#32 = 1#1 := by
        show BitVec.ofBool ((0#32).slt v) = _
        rw [show (0#32).slt v = true by
          have h0 : v.toNat ≠ 0 := fun h0 => hv (BitVec.eq_of_toNat_eq h0)
          rw [BitVec.slt_iff_toInt_lt, BitVec.toInt_eq_toNat_of_msb hm]; simp; omega]; rfl
      rw [hlt, hgt]
      have : Scalar.cmpi .ne (Scalar.subi (Scalar.extui 1#1) (Scalar.extui 0#1))
        (Scalar.subi (Scalar.extui (Scalar.cmpi .sgt (128#32) 0#32)) (Scalar.extui (Scalar.cmpi .slt (128#32) 0#32))) = 0#1 := by decide
      rw [this]
      unfold Scalar.select Scalar.andi IntOp.andi
      rw [if_neg]; rw [BitVec.zero_and]; decide
  show (Scalar.muli (Scalar.select _ _ (Scalar.divsi v 128#32)) 128#32).toNat = _
  rw [hsel, hdiv]
  show (BitVec.ofNat 32 (v.toNat / 128) * 128#32).toNat = _
  rw [BitVec.toNat_mul, BitVec.toNat_ofNat, BitVec.toNat_ofNat]; omega

/-- Where a trip's copy reads: the 128 columns around the index. -/
theorem off3_eq (v : BitVec 32) (h : v.toNat < 2 ^ 31) : k0_off3 v = ![0, 128 * (v.toNat / 128)] := by
  rw [← mult1_toNat v h]; rfl
/-- The drain loop spells the same columns. -/
theorem off6_eq (v : BitVec 32) (h : v.toNat < 2 ^ 31) : k0_off6 v = ![0, 128 * (v.toNat / 128)] := by
  rw [← mult1_toNat v h]; rfl

/-- The columns around an index in range lie inside the table. -/
theorem inb3 (v : BitVec 32) (h : v.toNat < 999936) : ∀ a, (![0, 128 * (v.toNat / 128)] : Fin 2 → ℕ) a + S64x128.size a ≤ S64x1000000.size a := by
  intro a; fin_cases a
  · show 0 + 64 ≤ 64; omega
  · show 128 * (v.toNat / 128) + 128 ≤ 1000000; omega

/-- An index in range passes the issue loop's check. -/
theorem chk1_of (i : grid0.Coords) (v : BitVec 32) (h : v.toNat < 999936) : k0_chk1 i v := by
  refine ⟨fun _ => ?_, fun _ => ?_⟩
  · rw [mult1_toNat v (by omega)]; exact Nat.dvd_mul_right _ _
  · rw [off3_eq v (by omega)]; exact inb3 v h
/-- And the drain loop's. -/
theorem chk2_of (i : grid0.Coords) (v : BitVec 32) (h : v.toNat < 999936) : k0_chk2 i v := by
  refine ⟨fun _ => ?_, fun _ => ?_⟩
  · show 128 ∣ (k0_mult1 v).toNat
    rw [mult1_toNat v (by omega)]; exact Nat.dvd_mul_right _ _
  · rw [off6_eq v (by omega)]; exact inb3 v h

end Cert.Proof.KernelIdeal

end
-- ==== Proof.KernelIdeal.Gather.lean ====
/- The gather of the first grid point: 200 copies of 64 × 128 column blocks, all on one semaphore, issued by one
   loop and waited for by another. The loop invariants and what the two loops leave in the scratch. -/
module

public import proofs.«01_k».proof.Proof.KernelIdeal.Words
public import proofs.«01_k».proof.Proof.Gen.KernelIdeal.Loops
public import proofs.«01_k».proof.Proof.Gen.KernelIdeal.Launch
public import Idealize.ShloMosaic.Lib.Batch
public import Idealize.ShloMosaic.Lib.Ring
public import Idealize.ShloMosaic.Lib.Tactic

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The algebra of the proof: two copies of the pipelines' rounds, and the counters of the batch. -/
abbrev UU : Type := (UR sig nD τ × UR sig nD τ) × Counters
/-- No loop needs a variant. -/
abbrev 𝒱₀ : Variants := Variants.none

local notation "𝕄" => MT nD τ sig Unit (Elt F) ℕ UU ℕ

variable (c : Dev nD)

/-- The scratch block copy `k` lands in, as the issue loop spells it. -/
def dstB (k : Fin k0_t1_loop.trips) : Memref sig .tc .vmem S64x128 .f32 :=
  (Memref.whole cc0_scratch1).slice (Rect.unit (s := S64x25600) (k0_off2 k) S64x128.size
    (by rw [off2_eq]; intro a; have := lt_of_lt_of_eq k.isLt trips1; fin_cases a
        · show 0 + 64 ≤ 64; omega
        · show 128 * k.val + 128 ≤ 25600; omega)) (fun _ => rfl)
/-- The table block around index `v`, as the issue loop spells it. -/
def srcB (v : BitVec 32) (h : v.toNat < 999936) : Memref sig .tc .hbm S64x128 .f32 :=
  (Memref.whole main_v9).slice (Rect.unit (s := S64x1000000) (k0_off3 v) S64x128.size
    (by rw [off3_eq v (by omega)]; exact inb3 v h)) (fun _ => rfl)

/-- Contents of the index table, of the transposed table and of the scratch. -/
abbrev Idx0 : Type := S200.Idx → BitVec 32
/-- Contents of the transposed table. -/
abbrev Emb0 (F : FTy → Type) : Type := S64x1000000.Idx → F .f32
/-- Contents of the gathered columns. -/
abbrev Cols0 (F : FTy → Type) : Type := S64x25600.Idx → F .f32

/-- Index `k` of the table. -/
def word (F : FTy → Type) (idx : Idx0) (k : Fin k0_t1_loop.trips) : BitVec 32 :=
  (Memref.whole main_arg0 |>.access (Rect.unit (s := S200) (k0_off1 k) S1.size
    (by rw [off1_eq]; intro a; have := lt_of_lt_of_eq k.isLt trips1; fin_cases a; show k.val + 1 ≤ 200; omega))).read (Elt F) idx
    (Shape.Idx.first (numel1_S1.symm ▸ Nat.one_pos))

variable (idx : Idx0) (hidx : ∀ j, (idx j).toNat < 999936) (emb : Emb0 F) (g : Cols0 F)

/-- What copy `k` leaves: the scratch with its block overwritten by the table block around index `k`. -/
def landed (k : Fin k0_t1_loop.trips) : Cols0 F :=
  (dstB k).view.write (Elt F) g ((srcB (word F idx k) (hidx _)).view.read (Elt F) emb) Finset.univ

/-- Read token `k` of the whole transposed table. -/
abbrev tokE (k : ℕ) : sProp 𝕄 :=
  (Memref.whole main_v9).view.loc (c : Thread nD τ) ↦{Transfers.shareTokN fullShare k} emb
/-- The part of token `k` that copy `k` reads, and the rest. -/
abbrev tokIn (k : Fin k0_t1_loop.trips) : sProp 𝕄 :=
  (srcB (word F idx k) (hidx _)).view.loc (c : Thread nD τ) ↦[(srcB (word F idx k) (hidx _)).view.set]{Transfers.shareTokN fullShare k.val} emb
/-- The part of token `k` that copy `k` does not read. -/
abbrev tokOut (k : Fin k0_t1_loop.trips) : sProp 𝕄 :=
  (srcB (word F idx k) (hidx _)).view.loc (c : Thread nD τ) ↦[Finset.univ \ (srcB (word F idx k) (hidx _)).view.set]{Transfers.shareTokN fullShare k.val} emb
/-- Scratch block `k`, at the scratch's contents `f`. -/
abbrev blkAt (f : Cols0 F) (k : Fin k0_t1_loop.trips) : sProp 𝕄 :=
  (dstB k).view.loc (c : Thread nD τ) ↦[(dstB k).view.set]{fullShare} f

/-- What copy `k` hands back when it has landed. -/
abbrev deliv (k : Fin k0_t1_loop.trips) : sProp 𝕄 :=
  iprop(blkAt c (landed idx hidx emb g k) k ∗ tokIn c idx hidx emb k)

/-- One copy's credit: 64 × 128 elements of four bytes, by the 32. -/
abbrev NN : ℕ := 1024

/-- What one copy pays. -/
theorem credit_dst (k : Fin k0_t1_loop.trips) : (dstB k).view.amount (.dma (cc0_scratch3).sem) = NN := by
  show RefSig.tileCredit S64x128 .f32 = 1024
  decide

/-- The batch of 200 copies, `j` issued and `u` units consumed. -/
abbrev batch (j u : ℕ) : sProp 𝕄 :=
  Transfers.Batch (countersEmb (U := UU)) (c : Thread nD τ) (.dma (cc0_scratch3).sem) () NN (deliv c idx hidx emb g) j u

/-- One copy issued: its read token and its block go in, the batch counts one more. -/
theorem issue_one (k : Fin k0_t1_loop.trips) (hs hd hm) (K : PUnit → Prog (TpuEff nD τ sig (Elt F) Λ₀ .tc) Unit) (Q : Unit → sProp 𝕄) :
    iprop(tokIn c idx hidx emb k ∗ blkAt c g k ∗ batch c idx hidx emb g k.val 0)
      ⊢ iprop((batch c idx hidx emb g (k.val + 1) 0 -∗ wp frame (wpE (defs₀ (F := F)) 𝒱₀ (c : Thread nD τ) none) Set.univ (K ⟨⟩) Q)
        -∗ wp frame (wpE (defs₀ (F := F)) 𝒱₀ (c : Thread nD τ) none) Set.univ
            (.op (.enqueueDma (srcB (word F idx k) (hidx _)) (.here (dstB k)) (.dma (cc0_scratch3).sem) hs hd hm) K) Q) :=
  by
  have H := Transfers.wp_dmaBatch (defs := defs₀ (F := F)) (countersEmb (U := UU)) 𝒱₀ (c : Thread nD τ) none (src := srcB (word F idx k) (hidx _)) (dst := dstB k) (via := .same) (k := K) (Q := Q) (hsrc := hs) (hdst := hd) (hsem := hm) () NN
    (j := k.val) (u := 0) (fd := g) (fs := emb) (D := deliv c idx hidx emb g) (q := Transfers.shareTokN fullShare k.val) (credit_dst k) subset_rfl k.isLt (Nat.zero_le _)
    (show _ ⊢ deliv c idx hidx emb g k from .rfl)
  exact H

/-- What one more copy adds. -/
theorem units_succ (k : ℕ) : (k + 1) * NN = k * NN + NN := Nat.succ_mul k NN
/-- Before the last wait, one more copy's units stay short of the total. -/
theorem units_lt (k : ℕ) (h : k + 1 < k0_t1_loop.trips) : k * NN + NN < NN * k0_t1_loop.trips := by
  rw [trips1] at h ⊢; simp only [NN]; omega
/-- At the last wait, one more copy's units make the total. -/
theorem units_last (k : ℕ) (hk : k < 200) (h : k0_t1_loop.trips ≤ k + 1) : k * NN + NN = NN * k0_t1_loop.trips := by
  rw [trips1] at h ⊢; simp only [NN]; omega

/-- A wait short of the last: nothing back, the units counted. -/
theorem wait_one (srcw : Memref sig .tc .hbm S64x128 .f32) (dstw : Memref sig .tc .vmem S64x128 .f32) (u : ℕ) (hu : u + NN < NN * k0_t1_loop.trips)
    (W : Waits sig Unit) (hs hd) (K : PUnit → Prog (TpuEff nD τ sig (Elt F) Λ₀ .tc) Unit) (Q : Unit → sProp 𝕄) :
    iprop(batch c idx hidx emb g k0_t1_loop.trips u ∗ owes (c : Thread nD τ) 0 W)
      ⊢ iprop((iprop(batch c idx hidx emb g k0_t1_loop.trips (u + NN) ∗ owes (c : Thread nD τ) 0 (insert (SemLoc.dma (cc0_scratch3).sem, ()) W))
          -∗ wp frame (wpE (defs₀ (F := F)) 𝒱₀ (c : Thread nD τ) none) Set.univ (K ⟨⟩) Q)
        -∗ wp frame (wpE (defs₀ (F := F)) 𝒱₀ (c : Thread nD τ) none) Set.univ (.op (.waitDma2 (cc0_scratch3).sem srcw dstw hs hd) K) Q) := by
  have hN : dstw.view.dmaCredit = NN := by show RefSig.tileCredit S64x128 .f32 = 1024; decide
  have H := Transfers.wp_waitBatch (defs := defs₀ (F := F)) (countersEmb (U := UU)) 𝒱₀ (c : Thread nD τ) none (sem := (cc0_scratch3).sem) (srcw := srcw) (dstw := dstw) (k := K) (Q := Q) (hsrc := hs) (hdst := hd)
    () hN (D := deliv c idx hidx emb g) (u := u) hu (W := W)
  exact H

/-- The last wait: the cell at zero and every copy's delivery back. -/
theorem wait_last (srcw : Memref sig .tc .hbm S64x128 .f32) (dstw : Memref sig .tc .vmem S64x128 .f32) (u : ℕ) (hu : u + NN = NN * k0_t1_loop.trips)
    (W : Waits sig Unit) (hs hd) (K : PUnit → Prog (TpuEff nD τ sig (Elt F) Λ₀ .tc) Unit) (Q : Unit → sProp 𝕄) :
    iprop(batch c idx hidx emb g k0_t1_loop.trips u ∗ owes (c : Thread nD τ) 0 W)
      ⊢ iprop((iprop(bigSep Finset.univ (deliv c idx hidx emb g) ∗ semVal ((c : Thread nD τ), .dma (cc0_scratch3).sem) 0 ∗ owes (c : Thread nD τ) 0 (insert (SemLoc.dma (cc0_scratch3).sem, ()) W))
          -∗ wp frame (wpE (defs₀ (F := F)) 𝒱₀ (c : Thread nD τ) none) Set.univ (K ⟨⟩) Q)
        -∗ wp frame (wpE (defs₀ (F := F)) 𝒱₀ (c : Thread nD τ) none) Set.univ (.op (.waitDma2 (cc0_scratch3).sem srcw dstw hs hd) K) Q) := by
  have hN : dstw.view.dmaCredit = NN := by show RefSig.tileCredit S64x128 .f32 = 1024; decide
  have H := Transfers.wp_waitBatchLast (defs := defs₀ (F := F)) (countersEmb (U := UU)) 𝒱₀ (c : Thread nD τ) none (sem := (cc0_scratch3).sem) (srcw := srcw) (dstw := dstw) (k := K) (Q := Q) (hsrc := hs) (hdst := hd)
    () hN (by decide) (D := deliv c idx hidx emb g) (u := u) hu (W := W)
  exact H

/-- Before trip `k` of the issue loop. -/
def issueAt (k : ℕ) (_ : Unit) : sProp 𝕄 :=
  iprop(((Memref.whole main_arg0).view.loc (c : Thread nD τ) ↦{fullShare} idx)
    ∗ batch c idx hidx emb g k 0
    ∗ bigSep (Ring.rangeSet k0_t1_loop.trips k k0_t1_loop.trips) (blkAt c g)
    ∗ bigSep (Ring.rangeSet k0_t1_loop.trips k k0_t1_loop.trips) (fun t => tokE c emb t.val)
    ∗ bigSep (Ring.rangeSet k0_t1_loop.trips 0 k) (tokOut c idx hidx emb))

section Step
variable (i : grid0.Coords) (arg3 : Memref sig .tc .vmem S1x25600 .f32) (harg3 : arg3.IsWhole) (arg4 : Memref sig .tc .vmem S64x81920 .f32) (harg4 : arg4.IsWhole) (arg5 : Memref sig .tc .vmem S1x81920 .f32) (harg5 : arg5.IsWhole) (arg6 : Memref sig .tc .vmem S1x81920 .f32) (harg6 : arg6.IsWhole) (arg7 : Memref sig .tc .smem S1x1 .f32) (harg7 : arg7.IsWhole) (h1 : k0_cond1 i = 1#1)

/-- One turn of the loop that starts the copies. -/
theorem issue_step (k : Fin k0_t1_loop.trips) (acc : Unit) :
    issueAt c idx hidx emb g k acc ⊢ wp frame (wpE (defs₀ (F := F)) 𝒱₀ (c : Thread nD τ) none) Set.univ
      (k0_t1_body i (Memref.whole main_arg0) (Memref.isWhole_whole _) (Memref.whole main_v9) (Memref.isWhole_whole _) arg3 harg3 arg4 harg4 arg5 harg5 arg6 harg6 arg7 harg7
        (Memref.whole cc0_scratch0) (Memref.isWhole_whole _) (Memref.whole cc0_scratch1) (Memref.isWhole_whole _) (Memref.whole cc0_scratch2) (Memref.isWhole_whole _) cc0_scratch3 h1 k acc)
      (issueAt c idx hidx emb g (k.val + 1)) := by
  have hk := k.isLt
  unfold issueAt
  rw [Ring.bigSep_rangeSet_head (Φ := blkAt c g) hk hk, Ring.bigSep_rangeSet_head (Φ := fun t => tokE c emb t.val) hk hk]
  iintro ⟨Hi, HB, ⟨HD, HDs⟩, ⟨HT, HTs⟩, HO⟩
  unfold k0_t1_body
  ihave HT' := (show tokE c emb k.val ⊢ iprop(tokIn c idx hidx emb k ∗ tokOut c idx hidx emb k) from
    (pointsTo_split_subset (Finset.subset_univ _)).1) $$ HT
  icases HT' with ⟨HT, HR⟩
  sl_exec
  have hck : k0_chk1 i (issue_step.sl.r idx i h1 k) := chk1_of i (word F idx k) (hidx _)
  sl_exec
  iapply (issue_one c idx hidx emb g k _ _ _ _ _) $$ [HT HD HB]
  · isplitl [HT]; · iexact HT
    isplitl [HD]; · iexact HD
    iexact HB
  iintro HB
  sl_step
  isplitl [Hi]; · iexact Hi
  isplitl [HB]; · iexact HB
  isplitl [HDs]; · iexact HDs
  isplitl [HTs]; · iexact HTs
  rw [Ring.bigSep_rangeSet_last (Φ := tokOut c idx hidx emb) (hi := k.val + 1) (by omega) (by omega)]
  isplitl [HR]; · iexact HR
  iexact HO

/-- Before trip `k` of the drain loop: the index table; the waits recorded; and, until the last wait, the batch with `k`
    copies' units taken, after it the cell at zero and every delivery. -/
def drainAt (k : ℕ) (_ : Unit) : sProp 𝕄 :=
  iprop(((Memref.whole main_arg0).view.loc (c : Thread nD τ) ↦{fullShare} idx)
    ∗ (∃ W, owes (c : Thread nD τ) 0 W)
    ∗ (if k < k0_t1_loop.trips then batch c idx hidx emb g k0_t1_loop.trips (k * NN)
       else iprop(semVal ((c : Thread nD τ), .dma (cc0_scratch3).sem) 0 ∗ bigSep Finset.univ (deliv c idx hidx emb g))))

/-- One turn of the loop that waits for them. -/
theorem drain_step (k : Fin k0_t2_loop.trips) (acc : Unit) :
    drainAt c idx hidx emb g k acc ⊢ wp frame (wpE (defs₀ (F := F)) 𝒱₀ (c : Thread nD τ) none) Set.univ
      (k0_t2_body i (Memref.whole main_arg0) (Memref.isWhole_whole _) (Memref.whole main_v9) (Memref.isWhole_whole _) arg3 harg3 arg4 harg4 arg5 harg5 arg6 harg6 arg7 harg7
        (Memref.whole cc0_scratch0) (Memref.isWhole_whole _) (Memref.whole cc0_scratch1) (Memref.isWhole_whole _) (Memref.whole cc0_scratch2) (Memref.isWhole_whole _) cc0_scratch3 h1 k acc)
      (drainAt c idx hidx emb g (k.val + 1)) := by
  have hk : k.val < 200 := lt_of_lt_of_eq k.isLt trips2
  unfold drainAt
  rw [if_pos (lt_of_lt_of_eq hk trips1.symm)]
  unfold k0_t2_body
  iintro ⟨Hi, ⟨%W, HW⟩, HB⟩
  sl_exec
  have hck : k0_chk2 i (drain_step.sl.r idx i h1 k) := chk2_of i (word F idx ⟨k.val, lt_of_lt_of_eq hk trips1.symm⟩) (hidx _)
  sl_exec
  rcases Nat.lt_or_ge (k.val + 1) k0_t1_loop.trips with hlt | hge
  · rw [if_pos hlt]
    iapply (wait_one c idx hidx emb g _ _ (k.val * NN) (units_lt k.val hlt) W _ _ _ _) $$ [HB HW]
    · isplitl [HB] <;> iassumption
    iintro ⟨HB, HW⟩
    sl_step
    isplitl [Hi]; · iexact Hi
    isplitl [HW]; · iexists _; iexact HW
    rw [units_succ]; iexact HB
  · rw [if_neg (Nat.not_lt.mpr hge)]
    iapply (wait_last c idx hidx emb g _ _ (k.val * NN) (units_last k.val hk hge) W _ _ _ _) $$ [HB HW]
    · isplitl [HB] <;> iassumption
    iintro ⟨HD, HS, HW⟩
    sl_step
    isplitl [Hi]; · iexact Hi
    isplitl [HW]; · iexists _; iexact HW
    isplitl [HS] <;> iassumption

end Step

end Cert.Proof.KernelIdeal

end
-- ==== Proof.KernelIdeal.Gathered.lean ====
/- What the gather leaves: every scratch column is a column of the table, and the table, the index array, the
   scratch and the semaphore are whole again. -/
module

public import proofs.«01_k».proof.Proof.KernelIdeal.Gather
public import Idealize.ShloMosaic.Lib.ValueIdxCore

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

variable (c : Dev nD)
variable (idx : Idx0) (hidx : ∀ j, (idx j).toNat < 999936) (emb : Emb0 F) (g : Cols0 F)

/-- A gathered column's index number. -/
theorem colK_lt (y : S64x25600.Idx) : (y 1).val / 128 < 200 := by
  have : (y 1).val < 25600 := (y 1).isLt
  omega

include hidx in
/-- A gathered column's column in the table. -/
theorem col_lt (y : S64x25600.Idx) :
    128 * ((idx (ix1 ⟨(y 1).val / 128, colK_lt y⟩)).toNat / 128) + (y 1).val % 128 < 1000000 := by
  have := hidx (ix1 ⟨(y 1).val / 128, colK_lt y⟩)
  omega

/-- The scratch after the gather: column `128 k + r` is the table's column `r` of the 128 around index `k`. -/
def gathered : Cols0 F := fun y =>
  emb (ix2 (y 0) ⟨128 * ((idx (ix1 ⟨(y 1).val / 128, colK_lt y⟩)).toNat / 128) + (y 1).val % 128, col_lt idx hidx y⟩)

/-- The loop's word is the index. -/
theorem word_eq (k : Fin k0_t1_loop.trips) (h : k.val < 200) : word F idx k = idx (ix1 ⟨k.val, h⟩) := by
  unfold word
  refine congrArg idx (funext fun a => Fin.ext ?_)
  match a with
  | ⟨0, _⟩ =>
    have e := congrFun (off1_eq k) 0
    show k0_off1 k 0 + 1 * 0 = k.val
    rw [e]
    rfl

/-- A destination lies in the scratch. -/
theorem inb2 (k : Fin k0_t1_loop.trips) : ∀ a, k0_off2 k a + S64x128.size a ≤ S64x25600.size a := by
  rw [off2_eq]; intro a; have := lt_of_lt_of_eq k.isLt trips1; fin_cases a
  · show 0 + 64 ≤ 64; omega
  · show 128 * k.val + 128 ≤ 25600; omega
/-- The elements of scratch block `k`. -/
def dset (k : Fin k0_t1_loop.trips) : Finset S64x25600.Idx := (Rect.unit (s := S64x25600) (k0_off2 k) S64x128.size (inb2 k)).set
/-- A destination's elements. -/
theorem dset_eq (k : Fin k0_t1_loop.trips) : (dstB k).view.set = dset k := View.set_slice_whole _ _

/-- They are the columns `128 k … 128 k + 127`. -/
theorem mem_dset (k : Fin k0_t1_loop.trips) (y : S64x25600.Idx) : y ∈ dset k ↔ (y 1).val / 128 = k.val := by
  unfold dset
  rw [Rect.mem_set_unit]
  have h0 : (y 0).val < 64 := (y 0).isLt
  have e := off2_eq k
  constructor
  · intro H
    have h1 := H 1
    rw [e] at h1
    have a : 128 * k.val ≤ (y 1).val ∧ (y 1).val < 128 * k.val + 128 := h1
    omega
  · intro H a
    rw [e]
    fin_cases a
    · show 0 ≤ (y 0).val ∧ (y 0).val < 0 + 64; omega
    · show 128 * k.val ≤ (y 1).val ∧ (y 1).val < 128 * k.val + 128; omega

/-- Copy `k` leaves the gathered columns in its block. -/
theorem landed_eq (k : Fin k0_t1_loop.trips) : ∀ y ∈ (dstB k).view.set, landed idx hidx emb g k y = gathered idx hidx emb y := by
  intro y hy
  have hk : k.val < 200 := lt_of_lt_of_eq k.isLt trips1
  obtain ⟨x, -, rfl⟩ := Finset.mem_map.mp hy
  unfold landed
  refine (View.write_emb_of_mem _ _ (Finset.mem_univ x)).trans ?_
  generalize hz : (show S64x25600.Idx from (dstB k).view.emb x) = z
  have hz' : gathered idx hidx emb ((dstB k).view.emb x) = gathered idx hidx emb z := by rw [← hz]
  refine Eq.trans ?_ hz'.symm
  show emb ((srcB (word F idx k) (hidx _)).view.emb x) = gathered idx hidx emb z
  unfold gathered
  have hx1 : (x 1).val < 128 := (x 1).isLt
  have e1 : (z 1).val = 128 * k.val + (x 1).val := by
    rw [← hz]
    show k0_off2 k 1 + 1 * (x 1).val = _
    rw [off2_eq k]
    show 128 * k.val + 1 * (x 1).val = _
    omega
  have e0 : (z 0).val = (x 0).val := by
    rw [← hz]
    show k0_off2 k 0 + 1 * (x 0).val = _
    rw [off2_eq k]
    show 0 + 1 * (x 0).val = _
    omega
  have hw := hidx (ix1 ⟨k.val, hk⟩)
  have o3 := off3_eq (word F idx k) (by rw [word_eq idx k hk]; omega)
  rw [word_eq idx k hk] at o3
  refine congrArg emb (funext fun a => Fin.ext ?_)
  match a with
  | ⟨0, _⟩ =>
    show k0_off3 (word F idx k) 0 + 1 * (x 0).val = (z 0).val
    rw [e0, word_eq idx k hk, o3]
    show 0 + 1 * (x 0).val = _
    omega
  | ⟨1, _⟩ =>
    show k0_off3 (word F idx k) 1 + 1 * (x 1).val = 128 * ((idx (ix1 ⟨(z 1).val / 128, _⟩)).toNat / 128) + (z 1).val % 128
    have ek : (⟨(z 1).val / 128, colK_lt _⟩ : Fin 200) = ⟨k.val, hk⟩ := Fin.ext (by show (z 1).val / 128 = k.val; rw [e1]; omega)
    rw [ek, e1, word_eq idx k hk, o3]
    show 128 * ((idx (ix1 ⟨k.val, hk⟩)).toNat / 128) + 1 * (x 1).val = _
    omega

/-- Destinations do not meet. -/
theorem dset_disjoint : ∀ k k' : Fin k0_t1_loop.trips, k ≠ k' → Disjoint (dset k) (dset k') := fun k k' hne => by
  rw [Finset.disjoint_left]; intro y hy hy'
  rw [mem_dset] at hy hy'
  exact hne (Fin.ext (by omega))
/-- Destinations fill the scratch. -/
theorem dset_cover : Finset.univ.biUnion dset = Finset.univ := by
  ext y; simp only [Finset.mem_biUnion, Finset.mem_univ, true_and, iff_true]
  exact ⟨⟨(y 1).val / 128, lt_of_lt_of_eq (colK_lt y) trips1.symm⟩, (mem_dset _ _).mpr rfl⟩

/-- The scratch whole, at contents `f`. -/
abbrev colsAt (f : Cols0 F) : sProp 𝕄 := (Memref.whole cc0_scratch1).view.loc (c : Thread nD τ) ↦{fullShare} f
/-- The index array. -/
abbrev idxAt : sProp 𝕄 := (Memref.whole main_arg0).view.loc (c : Thread nD τ) ↦{fullShare} idx
/-- The transposed table. -/
abbrev embAt (q : PosShare TreeShare) : sProp 𝕄 := (Memref.whole main_v9).view.loc (c : Thread nD τ) ↦{q} emb
/-- The gather's semaphore at zero. -/
abbrev gcell : sProp 𝕄 := semVal ((c : Thread nD τ), .dma (cc0_scratch3).sem) 0

/-- A destination's share of the scratch. -/
theorem blkAt_eq (f : Cols0 F) (k : Fin k0_t1_loop.trips) :
    blkAt c f k = ((Memref.whole cc0_scratch1).view.loc (c : Thread nD τ) ↦[dset k]{fullShare} f) :=
  congrArg (fun S => ((Memref.whole cc0_scratch1).view.loc (c : Thread nD τ) ↦[S]{fullShare} f : sProp 𝕄)) (dset_eq k)

/-- The scratch is its destinations. -/
theorem cols_blocks (f : Cols0 F) : colsAt c f = bigSep Finset.univ (blkAt c f) :=
  by
  have h := Ring.pointsTo_blocks (ℓ := (Memref.whole cc0_scratch1).view.loc (c : Thread nD τ)) (q := fullShare) (Ix := Unit) (Val := Elt F) (Name := ℕ) (U := UU) (Lvl := ℕ) dset dset_disjoint dset_cover f
  have h2 : ∀ k ∈ (Finset.univ : Finset (Fin k0_t1_loop.trips)), ((Memref.whole cc0_scratch1).view.loc (c : Thread nD τ) ↦[dset k]{fullShare} f : sProp 𝕄) = blkAt c f k := fun k _ => (blkAt_eq c f k).symm
  exact h.trans (BI.bigSep_congr h2)

set_option backward.isDefEq.respectTransparency.types false in
instance deliv_storable (k : Fin k0_t1_loop.trips) : BI.Storable (upEmb : UEmb _ 𝕄) (deliv c idx hidx emb g k) := by
  unfold deliv; infer_instance

/-- The tokens below `n`, indexed by numbers or by bounded numbers. -/
theorem toks_eq (n : ℕ) : bigSep (Finset.range n) (fun t => tokE c emb t) = bigSep (Ring.rangeSet n 0 n) (fun t => tokE c emb t.val) :=
  (Ring.bigSep_rangeSet_eq_range (NB := n) (lo := 0) (hi := n) (Φ := fun t => tokE c emb t.val) le_rfl (fun t => tokE c emb t)
    (fun k hk => by show tokE c emb k = tokE c emb (0 + k); rw [Nat.zero_add])).symm

/-- Into the issue loop: the scratch by blocks, the table by read tokens, the batch allocated on the cell. -/
theorem gather_enter :
    iprop(idxAt c idx ∗ colsAt c g ∗ embAt c emb fullShare ∗ gcell c)
      ⊢ (iprop(|={Set.univ}=> (issueAt c idx hidx emb g 0 () ∗ embAt c emb (Transfers.shareDrop fullShare k0_t1_loop.trips))) : sProp 𝕄) := by
  iintro ⟨Hi, Hc, He, Hs⟩
  ihave He' := (Transfers.pointsTo_toks_range fullShare k0_t1_loop.trips).1 $$ He
  icases He' with ⟨Hr, Ht⟩
  imod (Transfers.batch_alloc' (Lvl := ℕ) (countersEmb (U := UU)) (c : Thread nD τ) () NN (deliv c idx hidx emb g) (sm := .dma (cc0_scratch3).sem) (E := Set.univ)) $$ Hs with HB
  imodintro
  isplitr [Hr]
  · unfold issueAt
    isplitl [Hi]; · iexact Hi
    isplitl [HB]; · iexact HB
    isplitl [Hc]
    · rw [Ring.rangeSet_univ]
      iapply (Entails.of_eq (cols_blocks c g)); iexact Hc
    isplitl [Ht]
    · iapply (Entails.of_eq (toks_eq c emb k0_t1_loop.trips)); iexact Ht
    rw [Ring.bigSep_rangeSet_empty (le_refl 0)]
    iempintro
  · iexact Hr

/-- From the issue loop to the drain loop. -/
theorem gather_mid :
    iprop(issueAt c idx hidx emb g k0_t1_loop.trips () ∗ (∃ W, owes (c : Thread nD τ) 0 W))
      ⊢ (iprop(drainAt c idx hidx emb g 0 () ∗ bigSep Finset.univ (tokOut c idx hidx emb)) : sProp 𝕄) := by
  unfold issueAt drainAt
  rw [if_pos (lt_of_lt_of_eq (by decide : 0 < 200) trips1.symm), Ring.rangeSet_univ, Nat.zero_mul]
  iintro ⟨⟨Hi, HB, -, -, HO⟩, HW⟩
  isplitr [HO]
  · isplitl [Hi]; · iexact Hi
    isplitl [HW] <;> iassumption
  · iexact HO

/-- A token's part handed back by its copy, with the rest, is the token. -/
theorem tok_join (k : Fin k0_t1_loop.trips) : (iprop(tokIn c idx hidx emb k ∗ tokOut c idx hidx emb k) : sProp 𝕄) ⊢ tokE c emb k.val :=
  (pointsTo_split_subset (Finset.subset_univ _)).2

/-- Out of the drain loop: everything whole again, the scratch gathered. -/
theorem gather_exit :
    iprop(drainAt c idx hidx emb g k0_t2_loop.trips () ∗ bigSep Finset.univ (tokOut c idx hidx emb) ∗ embAt c emb (Transfers.shareDrop fullShare k0_t1_loop.trips))
      ⊢ (iprop(idxAt c idx ∗ (∃ W, owes (c : Thread nD τ) 0 W) ∗ colsAt c (gathered idx hidx emb) ∗ embAt c emb fullShare ∗ gcell c) : sProp 𝕄) := by
  unfold drainAt
  rw [if_neg (Nat.not_lt.mpr (le_of_eq (trips1.trans trips2.symm)))]
  iintro ⟨⟨Hi, HW, Hs, HD⟩, HO, Hr⟩
  ihave HD' := (show bigSep Finset.univ (deliv c idx hidx emb g) ⊢ iprop(bigSep Finset.univ (fun k => blkAt c (landed idx hidx emb g k) k) ∗ bigSep Finset.univ (tokIn c idx hidx emb))
    from Entails.of_eq (BI.bigSep_sep _ _ _)) $$ HD
  icases HD' with ⟨Hb, Ht⟩
  isplitl [Hi]; · iexact Hi
  isplitl [HW]; · iexact HW
  isplitl [Hb]
  · iapply (show bigSep Finset.univ (fun k => blkAt c (landed idx hidx emb g k) k) ⊢ colsAt c (gathered idx hidx emb) from by
      rw [cols_blocks]
      exact BI.bigSep_mono fun k _ => Entails.of_eq (pointsTo_congr (landed_eq idx hidx emb g k)))
    iexact Hb
  isplitr [Hs]
  · iapply (Transfers.pointsTo_toks_range fullShare k0_t1_loop.trips).2
    isplitl [Hr]; · iexact Hr
    iapply (Entails.of_eq (toks_eq c emb k0_t1_loop.trips).symm)
    rw [Ring.rangeSet_univ]
    iapply (show iprop(bigSep Finset.univ (tokIn c idx hidx emb) ∗ bigSep Finset.univ (tokOut c idx hidx emb)) ⊢ bigSep Finset.univ (fun t : Fin k0_t1_loop.trips => tokE c emb t.val) from
      (Entails.of_eq (BI.bigSep_sep _ _ _).symm).trans (BI.bigSep_mono fun k _ => tok_join c idx hidx emb k))
    isplitl [Ht] <;> iassumption
  · iexact Hs

end Cert.Proof.KernelIdeal

end
-- ==== Proof.KernelIdeal.Body.lean ====
/- What one grid point of the first call does to the buffers it touches: the mean is gathered at the first point, every
   point writes its block of logits and carries the running maximum and sum, the last point writes their logarithm. -/
module

public import proofs.«01_k».proof.Proof.KernelIdeal.Gathered
public import Idealize.ShloMosaic.Lib.VecWindow
public import Idealize.ShloMosaic.Lib.CellWrites
public import Idealize.ShloMosaic.Lib.LaneScatter.Own
public import Idealize.ShloMosaic.Lib.Pipeline.TableIdle

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

variable (c : Dev nD)

/-- The two running words: the maximum first, the sum second. -/
def st (a b : F .f32) : S2.Idx → F .f32 := fun j => if (j 0).val = 0 then a else b

/-- The scratch of the mean, and the running words. -/
abbrev meanAt (M : S64x1.Idx → F .f32) : sProp 𝕄 := (Memref.whole cc0_scratch0).view.loc (c : Thread nD τ) ↦{fullShare} M
/-- The two running words hold `S`. -/
abbrev statAt (S : S2.Idx → F .f32) : sProp 𝕄 := (Memref.whole cc0_scratch2).view.loc (c : Thread nD τ) ↦{fullShare} S

/-- The running maximum and sum after the point `i`. -/
def newMax (i : grid0.Coords) (M : S64x1.Idx → F .f32) (X4 : S64x81920.Idx → F .f32) (X5 : S1x81920.Idx → F .f32) (mx : F .f32) : F .f32 :=
  k0_pay7 i M X4 X5 mx
/-- The running sum after a block. -/
def newSum (i : grid0.Coords) (M : S64x1.Idx → F .f32) (X4 : S64x81920.Idx → F .f32) (X5 : S1x81920.Idx → F .f32) (mx sm : F .f32) : F .f32 :=
  k0_pay1 (k0_pay8 i M X4 X5 mx sm) (k0_pay9 i M X4 X5 mx)

/-- Two one-word stores leave the two words. -/
theorem stat_writes (f : S2.Idx → F .f32) (h0 h1) (a b : F .f32) (L : List (View.Piece (Elt F) S2 .f32)) :
    (Memref.whole cc0_scratch2).view.writes (Elt F) f
      ((⟨Rect.unit (s := S2) ![0] S1.size h0, fun _ => a⟩ : View.Piece (Elt F) S2 .f32) :: ⟨Rect.unit (s := S2) ![1] S1.size h1, fun _ => b⟩ :: L) = st a b := by
  funext y
  refine (View.read_writes_cons_cell (Val := Elt F) (e := .f32) (d := ![2]) (Memref.whole cc0_scratch2 : Memref sig .tc .smem S2 .f32).view f (off := ![0]) h0 a _ y).trans ?_
  unfold st
  refine ite_congr rfl (fun _ => rfl) fun hne => ?_
  refine (View.read_writes_cons_cell (Val := Elt F) (e := .f32) (d := ![2]) (Memref.whole cc0_scratch2 : Memref sig .tc .smem S2 .f32).view f (off := ![1]) h1 b _ y).trans ?_
  have hy : (y 0).val < 2 := (y 0).isLt
  exact if_pos (show (y 0).val = 1 by have hne' : ¬ (y 0).val = 0 := hne; omega)

/-- Reading the whole mean column. -/
theorem mean_read (f : S64x1.Idx → F .f32) (h) : View.readAt (Elt F) (Memref.whole cc0_scratch0).view (Rect.unit (s := S64x1) ![0, 0] S64x1.size h).toLoadRect f = f :=
  (View.readAt_full (Val := Elt F) (s := S64x1) (e := .f32) (Memref.whole cc0_scratch0 : Memref sig .tc .vmem S64x1 .f32).view f h).trans rfl

/-- Writing the whole mean column. -/
theorem mean_writes (f : S64x1.Idx → F .f32) (h) (w : S64x1.Idx → F .f32) :
    (Memref.whole cc0_scratch0).view.writes (Elt F) f [(⟨Rect.unit (s := S64x1) ![0, 0] S64x1.size h, w⟩ : View.Piece (Elt F) S64x1 .f32)] = w :=
  View.read_writes_full (Val := Elt F) (s := S64x1) (e := .f32) (Memref.whole cc0_scratch0 : Memref sig .tc .vmem S64x1 .f32).view f h w []

/-- Reading all the gathered columns. -/
theorem cols_read (f : S64x25600.Idx → F .f32) (h) : View.readAt (Elt F) (Memref.whole cc0_scratch1).view (Rect.unit (s := S64x25600) ![0, 0] S64x25600.size h).toLoadRect f = f :=
  (View.readAt_full (Val := Elt F) (s := S64x25600) (e := .f32) (Memref.whole cc0_scratch1 : Memref sig .tc .vmem S64x25600 .f32).view f h).trans rfl

section Run
variable (i : grid0.Coords) (arg3 : Memref sig .tc .vmem S1x25600 .f32) (harg3 : arg3.IsWhole) (arg4 : Memref sig .tc .vmem S64x81920 .f32) (harg4 : arg4.IsWhole) (arg5 : Memref sig .tc .vmem S1x81920 .f32) (harg5 : arg5.IsWhole) (arg6 : Memref sig .tc .vmem S1x81920 .f32) (harg6 : arg6.IsWhole) (arg7 : Memref sig .tc .smem S1x1 .f32) (harg7 : arg7.IsWhole)

/-- The body of the first call on these staging buffers. -/
abbrev body0 : Prog (TpuEff nD τ sig (Elt F) Λ₀ .tc) PUnit :=
  cc0__main_kernel i (Memref.whole main_arg0) (Memref.isWhole_whole _) (Memref.whole main_v9) (Memref.isWhole_whole _) arg3 harg3 arg4 harg4 arg5 harg5 arg6 harg6 arg7 harg7
    (Memref.whole cc0_scratch0) (Memref.isWhole_whole _) (Memref.whole cc0_scratch1) (Memref.isWhole_whole _) (Memref.whole cc0_scratch2) (Memref.isWhole_whole _) cc0_scratch3

/-- A point that is neither the first nor the last. -/
theorem mid_run (h1 : ¬ k0_cond1 i = 1#1) (h2 : ¬ k0_cond2 i = 1#1) (X4 : S64x81920.Idx → F .f32) (X5 X6 : S1x81920.Idx → F .f32)
    (M : S64x1.Idx → F .f32) (mx sm : F .f32) (K : PUnit → sProp 𝕄) :
    iprop((owns (c : Thread nD τ) arg4 fullShare X4 ∗ owns (c : Thread nD τ) arg5 fullShare X5 ∗ owns (c : Thread nD τ) arg6 fullShare X6
          ∗ meanAt c M ∗ statAt c (st mx sm))
        ∗ (iprop(owns (c : Thread nD τ) arg4 fullShare X4 ∗ owns (c : Thread nD τ) arg5 fullShare X5 ∗ owns (c : Thread nD τ) arg6 fullShare (k0_pay4 M X4 X5)
          ∗ meanAt c M ∗ statAt c (st (newMax i M X4 X5 mx) (newSum i M X4 X5 mx sm))) -∗ K ⟨⟩))
      ⊢ wp frame (wpE (defs₀ (F := F)) 𝒱₀ (c : Thread nD τ) none) Set.univ
          (body0 i arg3 harg3 arg4 harg4 arg5 harg5 arg6 harg6 arg7 harg7) K := by
  rw [owns_eq_rep, owns_eq_rep, owns_eq_rep]
  unfold body0
  rw [cc0__main_kernel_eq_skeleton]
  unfold cc0__main_kernel_skel
  rw [k0_part1_eq_skeleton]
  unfold k0_part1_skel
  iintro ⟨⟨H4, H5, H6, HM, HS⟩, Hk⟩
  sl_exec!
  have e6 : arg6.view.read (Elt F) (arg6.view.writes (Elt F) arg6.view.junk (mid_run.sl.H6_1 c arg4 arg5 X4 X5 M)) = k0_pay4 M X4 X5 := by
    unfold mid_run.sl.H6_1
    rw [mean_read, View.readAt_rep_full arg4.view, View.readAt_rep_full arg5.view]
    exact View.read_writes_full arg6.view _ _ _ _
  have eS : (Memref.whole cc0_scratch2).view.writes (Elt F) (Memref.whole cc0_scratch2).view.junk
      (mid_run.sl.HS_2 c i arg4 arg5 X4 X5 M mx sm) = st (newMax i M X4 X5 mx) (newSum i M X4 X5 mx sm) := by
    unfold mid_run.sl.HS_2
    rw [mean_read, View.readAt_rep_full arg4.view, View.readAt_rep_full arg5.view]
    exact stat_writes _ _ _ _ _ _
  sl_step
  iapply Hk
  isplitl [H4]; · iexact H4
  isplitl [H5]; · iexact H5
  isplitl [H6]; · iapply (LaneScatter.raw_owns (c : Thread nD τ) arg6 e6); iexact H6
  isplitl [HM]; · iexact HM
  rw [eS]; iexact HS

/-- The last point. -/
theorem last_run (h1 : ¬ k0_cond1 i = 1#1) (h2 : k0_cond2 i = 1#1) (X4 : S64x81920.Idx → F .f32) (X5 X6 : S1x81920.Idx → F .f32) (X7 : S1x1.Idx → F .f32)
    (M : S64x1.Idx → F .f32) (mx sm : F .f32) (K : PUnit → sProp 𝕄) :
    iprop((owns (c : Thread nD τ) arg4 fullShare X4 ∗ owns (c : Thread nD τ) arg5 fullShare X5 ∗ owns (c : Thread nD τ) arg6 fullShare X6
          ∗ owns (c : Thread nD τ) arg7 fullShare X7 ∗ meanAt c M ∗ statAt c (st mx sm))
        ∗ (iprop(owns (c : Thread nD τ) arg4 fullShare X4 ∗ owns (c : Thread nD τ) arg5 fullShare X5 ∗ owns (c : Thread nD τ) arg6 fullShare (k0_pay4 M X4 X5)
          ∗ owns (c : Thread nD τ) arg7 fullShare (fun _ => k0_pay2 (newMax i M X4 X5 mx) (newSum i M X4 X5 mx sm))
          ∗ meanAt c M ∗ statAt c (st (newMax i M X4 X5 mx) (newSum i M X4 X5 mx sm))) -∗ K ⟨⟩))
      ⊢ wp frame (wpE (defs₀ (F := F)) 𝒱₀ (c : Thread nD τ) none) Set.univ
          (body0 i arg3 harg3 arg4 harg4 arg5 harg5 arg6 harg6 arg7 harg7) K := by
  rw [owns_eq_rep, owns_eq_rep, owns_eq_rep, owns_eq_rep]
  unfold body0
  rw [cc0__main_kernel_eq_skeleton]
  unfold cc0__main_kernel_skel
  rw [k0_part1_eq_skeleton]
  unfold k0_part1_skel
  iintro ⟨⟨H4, H5, H6, H7, HM, HS⟩, Hk⟩
  sl_exec!
  have e6 : arg6.view.read (Elt F) (arg6.view.writes (Elt F) arg6.view.junk (last_run.sl.H6_1 c arg4 arg5 X4 X5 M)) = k0_pay4 M X4 X5 := by
    unfold last_run.sl.H6_1
    rw [mean_read, View.readAt_rep_full arg4.view, View.readAt_rep_full arg5.view]
    exact View.read_writes_full arg6.view _ _ _ _
  have e7 : arg7.view.read (Elt F) (arg7.view.writes (Elt F) arg7.view.junk (last_run.sl.H7_1 c i arg4 arg5 X4 X5 M mx sm))
      = fun _ => k0_pay2 (newMax i M X4 X5 mx) (newSum i M X4 X5 mx sm) := by
    unfold last_run.sl.H7_1
    refine (View.read_writes_full arg7.view _ _ _ _).trans ?_
    unfold last_run.sl.r_3 last_run.sl.r_4
    rw [mean_read, View.readAt_rep_full arg4.view, View.readAt_rep_full arg5.view]
    rfl
  have eS : (Memref.whole cc0_scratch2).view.writes (Elt F) (Memref.whole cc0_scratch2).view.junk
      (last_run.sl.HS_2 c i arg4 arg5 X4 X5 M mx sm) = st (newMax i M X4 X5 mx) (newSum i M X4 X5 mx sm) := by
    unfold last_run.sl.HS_2
    rw [mean_read, View.readAt_rep_full arg4.view, View.readAt_rep_full arg5.view]
    exact stat_writes _ _ _ _ _ _
  sl_step
  iapply Hk
  isplitl [H4]; · iexact H4
  isplitl [H5]; · iexact H5
  isplitl [H6]; · iapply (LaneScatter.raw_owns (c : Thread nD τ) arg6 e6); iexact H6
  isplitl [H7]; · iapply (LaneScatter.raw_owns (c : Thread nD τ) arg7 e7); iexact H7
  isplitl [HM]; · iexact HM
  rw [eS]; iexact HS

set_option warn.classDefReducibility false in
/-- The issue loop's invariant, for the run to find. -/
@[sl_loop] def issueInv (h1 : k0_cond1 i = 1#1) (idx : Idx0) (hidx : ∀ j, (idx j).toNat < 999936) (emb : Emb0 F) (g : Cols0 F) :
    Gen.LoopInvTy_k0_t1 (F := F) Unit ℕ UU ℕ 𝒱₀ c none Set.univ i (Memref.whole main_arg0) (Memref.isWhole_whole _) (Memref.whole main_v9) (Memref.isWhole_whole _)
      arg3 harg3 arg4 harg4 arg5 harg5 arg6 harg6 arg7 harg7
      (Memref.whole cc0_scratch0) (Memref.isWhole_whole _) (Memref.whole cc0_scratch1) (Memref.isWhole_whole _) (Memref.whole cc0_scratch2) (Memref.isWhole_whole _) cc0_scratch3 h1 where
  inv := issueAt c idx hidx emb g
  step := issue_step c idx hidx emb g i arg3 harg3 arg4 harg4 arg5 harg5 arg6 harg6 arg7 harg7 h1

/-- The first point: it gathers, then does as the others. -/
theorem first_run (h1 : k0_cond1 i = 1#1) (h2 : ¬ k0_cond2 i = 1#1) (idx : Idx0) (hidx : ∀ j, (idx j).toNat < 999936) (emb : Emb0 F) (g : Cols0 F)
    (X3 : S1x25600.Idx → F .f32) (X4 : S64x81920.Idx → F .f32) (X5 X6 : S1x81920.Idx → F .f32)
    (M : S64x1.Idx → F .f32) (S : S2.Idx → F .f32) (W : Waits sig Unit) (K : PUnit → sProp 𝕄) :
    iprop((owns (c : Thread nD τ) arg3 fullShare X3 ∗ owns (c : Thread nD τ) arg4 fullShare X4 ∗ owns (c : Thread nD τ) arg5 fullShare X5 ∗ owns (c : Thread nD τ) arg6 fullShare X6
          ∗ meanAt c M ∗ statAt c S ∗ owes (c : Thread nD τ) 0 W ∗ issueAt c idx hidx emb g 0 () ∗ embAt c emb (Transfers.shareDrop fullShare k0_t1_loop.trips))
        ∗ (iprop(owns (c : Thread nD τ) arg3 fullShare X3 ∗ owns (c : Thread nD τ) arg4 fullShare X4 ∗ owns (c : Thread nD τ) arg5 fullShare X5
          ∗ owns (c : Thread nD τ) arg6 fullShare (k0_pay4 (k0_pay3 (gathered idx hidx emb) X3) X4 X5)
          ∗ meanAt c (k0_pay3 (gathered idx hidx emb) X3)
          ∗ statAt c (st (newMax i (k0_pay3 (gathered idx hidx emb) X3) X4 X5 (Scalar.ofBits .f32 0xFF800000#32))
              (newSum i (k0_pay3 (gathered idx hidx emb) X3) X4 X5 (Scalar.ofBits .f32 0xFF800000#32) (Scalar.ofBits .f32 0x00000000#32)))
          ∗ (∃ W', owes (c : Thread nD τ) 0 W') ∗ idxAt c idx ∗ colsAt c (gathered idx hidx emb) ∗ embAt c emb fullShare ∗ gcell c) -∗ K ⟨⟩))
      ⊢ wp frame (wpE (defs₀ (F := F)) 𝒱₀ (c : Thread nD τ) none) Set.univ
          (body0 i arg3 harg3 arg4 harg4 arg5 harg5 arg6 harg6 arg7 harg7) K := by
  rw [owns_eq_rep, owns_eq_rep, owns_eq_rep, owns_eq_rep]
  unfold body0
  rw [cc0__main_kernel_eq_skeleton]
  unfold cc0__main_kernel_skel
  rw [k0_part1_eq_skeleton]
  unfold k0_part1_skel
  iintro ⟨⟨H3, H4, H5, H6, HM, HS, HW, HI, HE⟩, Hk⟩
  sl_exec!
  rw [Idealize.SL.Sem.Prog.bind_assoc]
  sl_for (issueAt c idx hidx emb g) $$ [HI]
  · intro k acc; exact issue_step c idx hidx emb g i arg3 harg3 arg4 harg4 arg5 harg5 arg6 harg6 arg7 harg7 h1 k acc
  · iexact HI
  iintro %acc HI
  ihave HI' := (gather_mid c idx hidx emb g) $$ [HI HW]
  · isplitl [HI]; · iexact HI
    iexists W; iexact HW
  icases HI' with ⟨HI, HO⟩
  unfold first_run.sl.prog.cont_1
  rw [Idealize.SL.Sem.Prog.bind_assoc]
  sl_for (drainAt c idx hidx emb g) $$ [HI]
  · intro k acc; exact drain_step c idx hidx emb g i arg3 harg3 arg4 harg4 arg5 harg5 arg6 harg6 arg7 harg7 h1 k acc
  · iexact HI
  iintro %acc2 HI
  ihave HI' := (gather_exit c idx hidx emb g) $$ [HI HO HE]
  · isplitl [HI]; · iexact HI
    isplitl [HO] <;> iassumption
  icases HI' with ⟨HX, HW, HC, HE, HG⟩
  sl_exec!
  have eM : (Memref.whole cc0_scratch0).view.writes (Elt F) (Memref.whole cc0_scratch0).view.junk (first_run.sl.HM_1 c arg3 idx hidx emb X3)
      = k0_pay3 (gathered idx hidx emb) X3 := by
    unfold first_run.sl.HM_1
    rw [View.readAt_rep_full arg3.view, cols_read]
    exact mean_writes _ _ _
  have e3 : first_run.sl.v3 c arg3 idx hidx emb X3 = k0_pay3 (gathered idx hidx emb) X3 := by
    unfold first_run.sl.v3
    exact (mean_read _ _).trans eM
  have e6 : arg6.view.read (Elt F) (arg6.view.writes (Elt F) arg6.view.junk (first_run.sl.H6_1 c arg3 arg4 arg5 idx hidx emb X3 X4 X5))
      = k0_pay4 (k0_pay3 (gathered idx hidx emb) X3) X4 X5 := by
    unfold first_run.sl.H6_1
    rw [e3, View.readAt_rep_full arg4.view, View.readAt_rep_full arg5.view]
    exact View.read_writes_full arg6.view _ _ _ _
  have eS : (Memref.whole cc0_scratch2).view.writes (Elt F) (Memref.whole cc0_scratch2).view.junk
      (first_run.sl.HS_4 c i arg3 arg4 arg5 idx hidx emb X3 X4 X5)
      = st (newMax i (k0_pay3 (gathered idx hidx emb) X3) X4 X5 (Scalar.ofBits .f32 0xFF800000#32))
              (newSum i (k0_pay3 (gathered idx hidx emb) X3) X4 X5 (Scalar.ofBits .f32 0xFF800000#32) (Scalar.ofBits .f32 0x00000000#32)) := by
    unfold first_run.sl.HS_4
    rw [e3, View.readAt_rep_full arg4.view, View.readAt_rep_full arg5.view]
    exact stat_writes _ _ _ _ _ _
  sl_step
  iapply Hk
  isplitl [H3]; · iexact H3
  isplitl [H4]; · iexact H4
  isplitl [H5]; · iexact H5
  isplitl [H6]; · iapply (LaneScatter.raw_owns (c : Thread nD τ) arg6 e6); iexact H6
  isplitl [HM]; · rw [eM]; iexact HM
  isplitl [HS]; · rw [eS]; iexact HS
  isplitl [HW]; · iexact HW
  isplitl [HX]; · iexact HX
  isplitl [HC]; · iexact HC
  isplitl [HE] <;> iassumption

end Run

end Cert.Proof.KernelIdeal

end
-- ==== Proof.KernelIdeal.Sub.lean ====
/- The second call: it subtracts the one word the first call left from every block of the logits. Its body, its proof data
   over the contents it is entered from, and its region. -/
module

public import proofs.«01_k».proof.Proof.KernelIdeal.Body
public import proofs.«01_k».proof.Proof.Gen.KernelIdeal.Points
public import proofs.«01_k».proof.Proof.Gen.KernelIdeal.Regions
public import Idealize.ShloMosaic.Lib.Pipeline.FrameBody
public import Idealize.ShloMosaic.Lib.Pipeline.Value

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F] [Named F]

local notation "𝕄" => MT nD τ sig Unit (Elt F) ℕ UU ℕ

variable (c : Dev nD)

section Run1

variable (i : grid1.Coords) (arg1 : Memref sig .tc .vmem S1x81920 .f32) (harg1 : arg1.IsWhole) (arg2 : Memref sig .tc .smem S1x1 .f32) (harg2 : arg2.IsWhole)
  (arg3 : Memref sig .tc .vmem S1x81920 .f32) (harg3 : arg3.IsWhole)

/-- One point of the second call leaves the block minus the word. -/
theorem sub_run (X1 X3 : S1x81920.Idx → F .f32) (X2 : S1x1.Idx → F .f32) (K : PUnit → sProp 𝕄) :
    iprop((owns (c : Thread nD τ) arg1 fullShare X1 ∗ owns (c : Thread nD τ) arg2 fullShare X2 ∗ owns (c : Thread nD τ) arg3 fullShare X3)
        ∗ (iprop(owns (c : Thread nD τ) arg1 fullShare X1 ∗ owns (c : Thread nD τ) arg2 fullShare X2
            ∗ owns (c : Thread nD τ) arg3 fullShare (k1_pay1 X1 (X2 (ix2 0 0)))) -∗ K ⟨⟩))
      ⊢ wp frame (wpE (defs₀ (F := F)) 𝒱₀ (c : Thread nD τ) none) Set.univ (cc1__sub_kernel i arg1 harg1 arg2 harg2 arg3 harg3) K := by
  rw [owns_eq_rep, owns_eq_rep, owns_eq_rep]
  rw [cc1__sub_kernel_eq_skeleton]
  unfold cc1__sub_kernel_skel
  iintro ⟨⟨H1, H2, H3⟩, Hk⟩
  sl_exec!
  have e3 : arg3.view.read (Elt F) (arg3.view.writes (Elt F) arg3.view.junk (sub_run.sl.H3_1 c arg1 arg2 X1 X2)) = k1_pay1 X1 (X2 (ix2 0 0)) := by
    unfold sub_run.sl.H3_1
    rw [View.readAt_rep_full arg1.view]
    refine (View.read_writes_full arg3.view _ _ _ _).trans ?_
    refine congrArg (k1_pay1 X1) ?_
    unfold sub_run.sl.r
    refine (congrFun (View.readAt_rep_full (Val := Elt F) (s := S1x1) (e := .f32) arg2.view X2 _) _).trans (congrArg X2 ?_)
    funext a
    fin_cases a <;> exact Fin.ext (by rfl)
  sl_step
  iapply Hk
  isplitl [H1]; · iexact H1
  isplitl [H2]; · iexact H2
  iapply (LaneScatter.raw_owns (c : Thread nD τ) arg3 e3); iexact H3

end Run1

/-! ## The proof data -/

variable (V : (c : Dev nD) → (b : Ref sig .tc) → Buf (Elt F) ((c : Thread nD τ).loc b))

/-- The array of a window at the entry, and the block of it that a fetch reads. -/
abbrev A1 (c : Dev nD) (w : Fin 3) : Buf (Elt F) ((cfg1.win w).arr.view.loc (c : Thread nD τ)) := V c (Pipeline.arrRef spec1 w)
/-- A point's block of a window's array. -/
abbrev blk1 (c : Dev nD) (w : Fin 3) (t : Fin cfg1.N) := ((cfg1.win w).blk t).view.read (Elt F) (A1 V c w)

/-- The block as staged over filler words. -/
abbrev stg1 (c : Dev nD) (w : Fin 3) (t : Fin cfg1.N) := (cfg1.win w).fill (cfg1.grid.coords t) (fun _ => Classical.arbitrary _) (blk1 V c w t)

/-- The word subtracted. -/
def word1 (c : Dev nD) : F .f32 := stg1 V c 1 t1_0 (ix2 0 0)

/-- What the point leaves in the result's buffer. -/
def out1 (c : Dev nD) (t : Fin cfg1.N) : (cfg1.win 2).block.Idx → Elt F (cfg1.win 2).elt := k1_pay1 (stg1 V c 0 t) (word1 V c)

/-- The second call's proof data. -/
def dat1 (c : Dev nD) : Dat τ (Elt F) Unit ℕ UU ℕ cfg1 c where
  A w := A1 V c w
  after w t := match w with
    | ⟨0, _⟩ => stg1 V c 0 t
    | ⟨1, _⟩ => stg1 V c 1 t
    | ⟨2, _⟩ => out1 V c t
  Φ _ := Pipeline.scopedRest (Ix := Unit) (Name := ℕ) (U := UU) (Lvl := ℕ) (Val := Elt F) spec1 c
  q _ := fullShare
  owed _ := 0
  recorded _ := Set.univ

/-- What the row's buffer holds before a point. -/
theorem before1_0 (c : Dev nD) (t : Fin cfg1.N) (d) :
    (dat1 V c).before (0 : Fin 3) t d = win1_0.fill (grid1.coords t) d (blk1 V c 0 t) := by
  unfold Dat.before; rw [if_pos (fetch1_0 t)]; rfl

/-- The word is the same at every point. -/
theorem stg1_const (c : Dev nD) (t : Fin cfg1.N) : stg1 V c 1 t = stg1 V c 1 t1_0 := rfl

/-- What the word's buffer holds before a point. -/
theorem before1_1 (c : Dev nD) (t : Fin cfg1.N) (d) :
    (dat1 V c).before (1 : Fin 3) t d = stg1 V c 1 t := by
  refine (Pipeline.Dat.before_in_eq_fetched (dat1 V c) 1 rfl (fun _ => rfl) (fun _ _ _ => rfl) (fun t => ?_) t d).trans ?_
  · exact Window.cut_fill win1_1 (grid1.coords t) (fun _ => Classical.arbitrary _) (blk1 V c 1 t)
  · exact Pipeline.fill_of_clip_none (cfg := cfg1) 1 (grid1.coords t) (fun _ => rfl) d (fun _ => Classical.arbitrary _) (blk1 V c 1 t)

/-- The result's buffer holds anything before a point. -/
theorem before1_2 (c : Dev nD) (t : Fin cfg1.N) (d) : (dat1 V c).before (2 : Fin 3) t d = d := by
  refine Pipeline.Dat.before_out_reset (dat1 V c) 2 rfl t ?_ d
  rcases Nat.eq_zero_or_pos t.val with h | h
  · exact .inl h
  · exact .inr ⟨h.ne', flush1_2 _⟩

/-- What is written out does not depend on what lay past the array. -/
theorem sub_fill (t : Fin cfg1.N) (d d' : S1x81920.Idx → Elt F .f32) (b : (win1_0.xblock (grid1.coords t)).Idx → Elt F .f32) (w : F .f32) :
    (k1_pay1 (win1_0.fill (grid1.coords t) d b) w : S1x81920.Idx → Elt F .f32)
      = win1_2.fill (grid1.coords t) (k1_pay1 (win1_0.fill (grid1.coords t) d b) w)
          (win1_2.cut (grid1.coords t) (k1_pay1 (win1_0.fill (grid1.coords t) d' b) w)) := by
  have h : (win1_2.cut (grid1.coords t) (k1_pay1 (win1_0.fill (grid1.coords t) d b) w) : _ → Elt F .f32)
      = win1_2.cut (grid1.coords t) (k1_pay1 (win1_0.fill (grid1.coords t) d' b) w) := by
    have hc := (win1_0.cut_fill (grid1.coords t) d b).trans (win1_0.cut_fill (grid1.coords t) d' b).symm
    funext j
    unfold k1_pay1
    rw [shapeCast_self, shapeCast_self]
    exact congrArg (fun x : F .f32 => FloatOps.subf x w) (congrFun hc j)
  rw [← h, Window.fill_cut]

/-- The second call's body at every point. -/
theorem body1 (c : Dev nD) : BodyObligationLoose (dat1 V c) (defs₀ (F := F)) 𝒱₀ () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩⟩
  rw [before1_0 V c t d0, before1_1 V c t d1, before1_2 V c t d2]
  iapply (sub_run c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (win1_0.fill (grid1.coords t) d0 (blk1 V c 0 t)) d2 (stg1 V c 1 t) _)
  isplitl [H0 H1 H2]
  · isplitl [H0]; · iexact H0
    isplitl [H1]; · iexact H1
    iexact H2
  iintro ⟨H0, H1, H2⟩
  isplitl [HΦ]; · iexact HΦ
  isplitl [Ho]; · iexact Ho
  isplitl [H0]
  · iexists d0
    change _ ⊢ owns (c : Thread nD τ) (st1_0 t) fullShare (win1_0.fill (grid1.coords t) d0 (win1_0.cut (grid1.coords t) (stg1 V c 0 t)))
    rw [show win1_0.cut (grid1.coords t) (stg1 V c 0 t) = blk1 V c 0 t from win1_0.cut_fill _ _ _]
    try iexact H0
  isplitl [H1]; · iexact H1
  iexists (k1_pay1 (win1_0.fill (grid1.coords t) d0 (blk1 V c 0 t)) (word1 V c) : S1x81920.Idx → Elt F .f32)
  have e : (k1_pay1 (win1_0.fill (grid1.coords t) d0 (blk1 V c 0 t)) (word1 V c) : S1x81920.Idx → Elt F .f32)
      = win1_2.fill (grid1.coords t) (k1_pay1 (win1_0.fill (grid1.coords t) d0 (blk1 V c 0 t)) (word1 V c)) (win1_2.cut (grid1.coords t) (out1 V c t)) :=
    sub_fill t d0 (fun _ => Classical.arbitrary (Elt F (cfg1.win 0).elt)) (blk1 V c 0 t) (word1 V c)
  change _ ⊢ owns (c : Thread nD τ) (st1_2 t) fullShare (win1_2.fill (grid1.coords t) (k1_pay1 (win1_0.fill (grid1.coords t) d0 (blk1 V c 0 t)) (word1 V c)) (win1_2.cut (grid1.coords t) (out1 V c t)))
  rw [← e]
  exact BI.Entails.refl _

end Cert.Proof.KernelIdeal

end
-- ==== Proof.KernelIdeal.Main.lean ====
/- The first call's proof data: the arrays it is entered from, what stands between its points, and what its body finds in
   each staging buffer. -/
module

public import proofs.«01_k».proof.Proof.KernelIdeal.Sub

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F] [Named F]

local notation "𝕄" => MT nD τ sig Unit (Elt F) ℕ UU ℕ

/-! ## The points -/

/-- The first condition holds at the first point. -/
theorem cond1_iff (t : Fin grid0.N) : k0_cond1 (grid0.coords t) = 1#1 ↔ t.val = 0 := by
  rcases fin_N0 t with rfl | rfl | rfl | rfl | rfl | rfl | rfl | rfl | rfl | rfl | rfl | rfl | rfl <;> decide
/-- The second condition holds at the last point. -/
theorem cond2_iff (t : Fin grid0.N) : k0_cond2 (grid0.coords t) = 1#1 ↔ t.val = 12 := by
  rcases fin_N0 t with rfl | rfl | rfl | rfl | rfl | rfl | rfl | rfl | rfl | rfl | rfl | rfl | rfl <;> decide

/-- Two words are the two words of a pair. -/
theorem st_eta (S : S2.Idx → F .f32) : st (S (ix1 0)) (S (ix1 1)) = S := by
  funext j
  unfold st
  have hj : (j 0).val < 2 := (j 0).isLt
  by_cases h : (j 0).val = 0
  · rw [if_pos h]
    exact congrArg S (funext fun a => by fin_cases a; exact Fin.ext h.symm)
  · rw [if_neg h]
    exact congrArg S (funext fun a => by fin_cases a; exact Fin.ext (show 1 = (j 0).val by omega))

/-! ## The proof data -/

variable (adm : (pcfg0 (F := F)).Adm)
variable (V : (c : Dev nD) → (b : Ref sig .tc) → Buf (Elt F) ((c : Thread nD τ).loc b))

/-- The index array as prefetched, and the transposed table at the entry. -/
abbrev idx0 : Idx0 := adm.1 (0 : Fin 1)
/-- The transposed table at the entry. -/
abbrev emb0 (c : Dev nD) : Emb0 F := V c main_v9

/-- The array of a window at the entry, and the block of it that a fetch reads. -/
abbrev A0 (c : Dev nD) (w : Fin 5) : Buf (Elt F) (((cfg0 adm).win w).arr.view.loc (c : Thread nD τ)) := V c (Pipeline.arrRef spec0 w)
/-- A point's block of a window's array. -/
abbrev blk0 (c : Dev nD) (w : Fin 5) (t : Fin (cfg0 adm).N) := (((cfg0 adm).win w).blk t).view.read (Elt F) (A0 adm V c w)
/-- The block as staged over filler words. -/
abbrev stg0 (c : Dev nD) (w : Fin 5) (t : Fin (cfg0 adm).N) :=
  ((cfg0 adm).win w).fill ((cfg0 adm).grid.coords t) (fun _ => Classical.arbitrary _) (blk0 adm V c w t)

/-- The scoped buffers that are the second call's. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg1_0), ((c : Thread nD τ).loc cc1_stg1_0) ↦{fullShare} f))

/-- What stands between two points: the index array, the table, the semaphore at zero, the gathered columns at something,
    and the mean and the running words as `P` says of the point. -/
def inv0 (P : ℕ → (S64x1.Idx → F .f32) → (S2.Idx → F .f32) → Prop) (c : Dev nD) (n : ℕ) : sProp 𝕄 :=
  iprop(idxAt c (idx0 adm) ∗ embAt c (emb0 V c) fullShare ∗ gcell c ∗ (∃ g : Cols0 F, colsAt c g) ∗ others c
    ∗ ∃ (M : S64x1.Idx → F .f32) (S : S2.Idx → F .f32), ⌜P n M S⌝ ∗ meanAt c M ∗ statAt c S)

/-- The proof data: `P` says what the mean and the running words are, `X3` and `X4` what the two results' buffers are left at. -/
def dat0 (P : Dev nD → ℕ → (S64x1.Idx → F .f32) → (S2.Idx → F .f32) → Prop)
    (X3 : Dev nD → ℕ → S1x81920.Idx → F .f32) (X4 : Dev nD → S1x1.Idx → F .f32) (c : Dev nD) : Dat τ (Elt F) Unit ℕ UU ℕ (cfg0 adm) c where
  A w := A0 adm V c w
  after w t := match w with
    | ⟨0, _⟩ => stg0 adm V c 0 t
    | ⟨1, _⟩ => stg0 adm V c 1 t
    | ⟨2, _⟩ => stg0 adm V c 2 t
    | ⟨3, _⟩ => X3 c t.val
    | ⟨4, _⟩ => X4 c
  Φ t := inv0 adm V (P c) c t.val
  q _ := fullShare
  owed _ := 0
  recorded _ := Set.univ

/-- The weights are fetched at every point. -/
theorem fetch0_1 : ∀ t : Fin (cfg0 adm).N, ((cfg0 adm).win 1).fetch t = true :=
  (fun t => (Pipeline.Window.fetch_reads (win0 adm 1) rfl 0 (by decide) (show grid0.fixedAfter reads0_1 0 = true by decide) (Pipeline.Window.sep_of_coord cc0_transform_2 0 1 (fun _ => rfl) (by decide)) (P := 1) (by decide) t).mpr (Nat.mod_one _) : ∀ t : Fin grid0.N, (win0 adm 1).fetch t = true)
/-- The bias is fetched at every point. -/
theorem fetch0_2 : ∀ t : Fin (cfg0 adm).N, ((cfg0 adm).win 2).fetch t = true :=
  (fun t => (Pipeline.Window.fetch_reads (win0 adm 2) rfl 0 (by decide) (show grid0.fixedAfter reads0_2 0 = true by decide) (Pipeline.Window.sep_of_coord cc0_transform_3 0 1 (fun _ => rfl) (by decide)) (P := 1) (by decide) t).mpr (Nat.mod_one _) : ∀ t : Fin grid0.N, (win0 adm 2).fetch t = true)
/-- The logits are sent out at every point. -/
theorem flush0_3 : ∀ t : Fin (cfg0 adm).N, ((cfg0 adm).win 3).flush t = true :=
  (fun t => (Pipeline.Window.flush_reads (win0 adm 3) rfl 0 (by decide) (show grid0.fixedAfter reads0_3 0 = true by decide) (Pipeline.Window.sep_of_coord cc0_transform_4 0 1 (fun _ => rfl) (by decide)) (P := 1) (m := 0) (by decide) rfl t).mpr (Nat.mod_one _) : ∀ t : Fin grid0.N, (win0 adm 3).flush t = true)

section Before
variable (P : Dev nD → ℕ → (S64x1.Idx → F .f32) → (S2.Idx → F .f32) → Prop)
    (X3 : Dev nD → ℕ → S1x81920.Idx → F .f32) (X4 : Dev nD → S1x1.Idx → F .f32) (c : Dev nD)

/-- What the mask's buffer holds before a point. -/
theorem before0_0 (t : Fin (cfg0 adm).N) (d) : (dat0 adm V P X3 X4 c).before (0 : Fin 5) t d = stg0 adm V c 0 t := by
  refine (Pipeline.Dat.before_in_eq_fetched (dat0 adm V P X3 X4 c) 0 rfl (fun _ => rfl) (fun _ _ _ => rfl) (fun t => ?_) t d).trans ?_
  · exact Window.cut_fill (win0 adm 0) (grid0.coords t) (fun _ => Classical.arbitrary _) (blk0 adm V c 0 t)
  · exact Pipeline.fill_of_clip_none (cfg := cfg0 adm) 0 (grid0.coords t) (fun _ => rfl) d (fun _ => Classical.arbitrary _) (blk0 adm V c 0 t)
/-- What the weights' buffer holds before a point. -/
theorem before0_1 (t : Fin (cfg0 adm).N) (d) : (dat0 adm V P X3 X4 c).before (1 : Fin 5) t d = (win0 adm 1).fill (grid0.coords t) d (blk0 adm V c 1 t) := by
  unfold Dat.before; exact if_pos (fetch0_1 adm t)
/-- What the bias's buffer holds before a point. -/
theorem before0_2 (t : Fin (cfg0 adm).N) (d) : (dat0 adm V P X3 X4 c).before (2 : Fin 5) t d = (win0 adm 2).fill (grid0.coords t) d (blk0 adm V c 2 t) := by
  unfold Dat.before; exact if_pos (fetch0_2 adm t)

end Before

end Cert.Proof.KernelIdeal

end
-- ==== Proof.KernelIdeal.Step.lean ====
/- One point of the first call, whichever point it is: what it does to the mean, to the running words and to its two results. -/
module

public import proofs.«01_k».proof.Proof.KernelIdeal.Main

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F] [Named F]

local notation "𝕄" => MT nD τ sig Unit (Elt F) ℕ UU ℕ

/-- The mean after a point: made at the first point, kept after it. -/
def nextM (i : grid0.Coords) (idx : Idx0) (hidx : ∀ j, (idx j).toNat < 999936) (emb : Emb0 F) (X3 : S1x25600.Idx → F .f32)
    (M : S64x1.Idx → F .f32) : S64x1.Idx → F .f32 :=
  if k0_cond1 i = 1#1 then k0_pay3 (gathered idx hidx emb) X3 else M

/-- The running words a point starts from: reset at the first point. -/
def fromS (i : grid0.Coords) (S : S2.Idx → F .f32) : S2.Idx → F .f32 :=
  if k0_cond1 i = 1#1 then st (Scalar.ofBits .f32 0xFF800000#32) (Scalar.ofBits .f32 0x00000000#32) else S

/-- The running words after a point, from the mean it works with and the words it starts from. -/
def nextS (i : grid0.Coords) (M : S64x1.Idx → F .f32) (X4 : S64x81920.Idx → F .f32) (X5 : S1x81920.Idx → F .f32) (S : S2.Idx → F .f32) : S2.Idx → F .f32 :=
  st (newMax i M X4 X5 (S (ix1 0))) (newSum i M X4 X5 (S (ix1 0)) (S (ix1 1)))

/-- The second result's word after a point: written at the last point only. -/
def nextL (i : grid0.Coords) (S : S2.Idx → F .f32) (X7 : S1x1.Idx → F .f32) : S1x1.Idx → F .f32 :=
  if k0_cond2 i = 1#1 then fun _ => k0_pay2 (S (ix1 0)) (S (ix1 1)) else X7

variable (adm : (pcfg0 (F := F)).Adm)
variable (V : (c : Dev nD) → (b : Ref sig .tc) → Buf (Elt F) ((c : Thread nD τ).loc b))

/-- What a point leaves besides its staging buffers, the mean and the running words named. -/
def left0 (c : Dev nD) (M : S64x1.Idx → F .f32) (S : S2.Idx → F .f32) : sProp 𝕄 :=
  iprop(idxAt c (idx0 adm) ∗ embAt c (emb0 V c) fullShare ∗ gcell c ∗ (∃ g : Cols0 F, colsAt c g) ∗ others c ∗ meanAt c M ∗ statAt c S)

/-- Any point, from the mean and the running words to the next. -/
theorem any_run (P : ℕ → (S64x1.Idx → F .f32) → (S2.Idx → F .f32) → Prop) (c : Dev nD) (hidx : ∀ j, (idx0 adm j).toNat < 999936)
    (t : Fin grid0.N) (arg3 : Memref sig .tc .vmem S1x25600 .f32) (harg3 : arg3.IsWhole) (arg4 : Memref sig .tc .vmem S64x81920 .f32) (harg4 : arg4.IsWhole)
    (arg5 : Memref sig .tc .vmem S1x81920 .f32) (harg5 : arg5.IsWhole) (arg6 : Memref sig .tc .vmem S1x81920 .f32) (harg6 : arg6.IsWhole)
    (arg7 : Memref sig .tc .smem S1x1 .f32) (harg7 : arg7.IsWhole)
    (X3 : S1x25600.Idx → F .f32) (X4 : S64x81920.Idx → F .f32) (X5 X6 : S1x81920.Idx → F .f32) (X7 : S1x1.Idx → F .f32) (K : PUnit → sProp 𝕄) :
    iprop((inv0 adm V P c t.val ∗ (∃ W : Waits sig Unit, owes (c : Thread nD τ) 0 W)
          ∗ owns (c : Thread nD τ) arg3 fullShare X3 ∗ owns (c : Thread nD τ) arg4 fullShare X4 ∗ owns (c : Thread nD τ) arg5 fullShare X5
          ∗ owns (c : Thread nD τ) arg6 fullShare X6 ∗ owns (c : Thread nD τ) arg7 fullShare X7)
        ∗ (∀ (M : S64x1.Idx → F .f32) (S : S2.Idx → F .f32), iprop(⌜P t.val M S⌝
          ∗ left0 adm V c (nextM (grid0.coords t) (idx0 adm) hidx (emb0 V c) X3 M)
              (nextS (grid0.coords t) (nextM (grid0.coords t) (idx0 adm) hidx (emb0 V c) X3 M) X4 X5 (fromS (grid0.coords t) S))
          ∗ (∃ W : Waits sig Unit, owes (c : Thread nD τ) 0 W)
          ∗ owns (c : Thread nD τ) arg3 fullShare X3 ∗ owns (c : Thread nD τ) arg4 fullShare X4 ∗ owns (c : Thread nD τ) arg5 fullShare X5
          ∗ owns (c : Thread nD τ) arg6 fullShare (k0_pay4 (nextM (grid0.coords t) (idx0 adm) hidx (emb0 V c) X3 M) X4 X5)
          ∗ owns (c : Thread nD τ) arg7 fullShare (nextL (grid0.coords t)
              (nextS (grid0.coords t) (nextM (grid0.coords t) (idx0 adm) hidx (emb0 V c) X3 M) X4 X5 (fromS (grid0.coords t) S)) X7)) -∗ K ⟨⟩))
      ⊢ wp frame (wpE (defs₀ (F := F)) 𝒱₀ (c : Thread nD τ) none) Set.univ
          (body0 (grid0.coords t) arg3 harg3 arg4 harg4 arg5 harg5 arg6 harg6 arg7 harg7) K := by
  unfold inv0 left0
  iintro ⟨⟨⟨Hidx, Hemb, Hg, Hcols, Hoth, %M, %S, %hP, HM, HS⟩, HO, H3, H4, H5, H6, H7⟩, Hk⟩
  ihave Hk := Hk $$ %M %S
  by_cases h1 : k0_cond1 (grid0.coords t) = 1#1
  · have h2 : ¬ k0_cond2 (grid0.coords t) = 1#1 := fun h => by
      have a := (cond1_iff t).mp h1
      have b := (cond2_iff t).mp h
      omega
    icases Hcols with ⟨%g, Hcols⟩
    icases HO with ⟨%W, HO⟩
    ihave >Hgat := (gather_enter c (idx0 adm) hidx (emb0 V c) g) $$ [Hidx Hcols Hemb Hg]
    · isplitl [Hidx]; · iexact Hidx
      isplitl [Hcols]; · iexact Hcols
      isplitl [Hemb]; · iexact Hemb
      iexact Hg
    icases Hgat with ⟨HI, HE⟩
    iapply (first_run c (grid0.coords t) arg3 harg3 arg4 harg4 arg5 harg5 arg6 harg6 arg7 harg7 h1 h2 (idx0 adm) hidx (emb0 V c) g X3 X4 X5 X6 M S W _)
    isplitl [H3 H4 H5 H6 HM HS HO HI HE]
    · isplitl [H3]; · iexact H3
      isplitl [H4]; · iexact H4
      isplitl [H5]; · iexact H5
      isplitl [H6]; · iexact H6
      isplitl [HM]; · iexact HM
      isplitl [HS]; · iexact HS
      isplitl [HO]; · iexact HO
      isplitl [HI]; · iexact HI
      iexact HE
    iintro ⟨H3, H4, H5, H6, HM, HS, HO, Hidx, Hcols, Hemb, Hg⟩
    iapply Hk
    unfold nextM nextS nextL fromS
    rw [if_pos h1, if_pos h1, if_neg h2]
    isplitr; · ipureintro; exact hP
    isplitl [Hidx Hemb Hg Hcols Hoth HM HS]
    · isplitl [Hidx]; · iexact Hidx
      isplitl [Hemb]; · iexact Hemb
      isplitl [Hg]; · iexact Hg
      isplitl [Hcols]; · iexists _; iexact Hcols
      isplitl [Hoth]; · iexact Hoth
      isplitl [HM]; · iexact HM
      iexact HS
    isplitl [HO]; · iexact HO
    isplitl [H3]; · iexact H3
    isplitl [H4]; · iexact H4
    isplitl [H5]; · iexact H5
    isplitl [H6]; · iexact H6
    iexact H7
  · have hS : S = st (S (ix1 0)) (S (ix1 1)) := (st_eta S).symm
    by_cases h2 : k0_cond2 (grid0.coords t) = 1#1
    · iapply (last_run c (grid0.coords t) arg3 harg3 arg4 harg4 arg5 harg5 arg6 harg6 arg7 harg7 h1 h2 X4 X5 X6 X7 M (S (ix1 0)) (S (ix1 1)) _)
      rw [← hS]
      isplitl [H4 H5 H6 H7 HM HS]
      · isplitl [H4]; · iexact H4
        isplitl [H5]; · iexact H5
        isplitl [H6]; · iexact H6
        isplitl [H7]; · iexact H7
        isplitl [HM]; · iexact HM
        iexact HS
      iintro ⟨H4, H5, H6, H7, HM, HS⟩
      iapply Hk
      unfold nextM nextS nextL fromS
      rw [if_neg h1, if_neg h1, if_pos h2]
      isplitr; · ipureintro; exact hP
      isplitl [Hidx Hemb Hg Hcols Hoth HM HS]
      · isplitl [Hidx]; · iexact Hidx
        isplitl [Hemb]; · iexact Hemb
        isplitl [Hg]; · iexact Hg
        isplitl [Hcols]; · iexact Hcols
        isplitl [Hoth]; · iexact Hoth
        isplitl [HM]; · iexact HM
        iexact HS
      isplitl [HO]; · iexact HO
      isplitl [H3]; · iexact H3
      isplitl [H4]; · iexact H4
      isplitl [H5]; · iexact H5
      isplitl [H6]; · iexact H6
      iexact H7
    · iapply (mid_run c (grid0.coords t) arg3 harg3 arg4 harg4 arg5 harg5 arg6 harg6 arg7 harg7 h1 h2 X4 X5 X6 M (S (ix1 0)) (S (ix1 1)) _)
      rw [← hS]
      isplitl [H4 H5 H6 HM HS]
      · isplitl [H4]; · iexact H4
        isplitl [H5]; · iexact H5
        isplitl [H6]; · iexact H6
        isplitl [HM]; · iexact HM
        iexact HS
      iintro ⟨H4, H5, H6, HM, HS⟩
      iapply Hk
      unfold nextM nextS nextL fromS
      rw [if_neg h1, if_neg h1, if_neg h2]
      isplitr; · ipureintro; exact hP
      isplitl [Hidx Hemb Hg Hcols Hoth HM HS]
      · isplitl [Hidx]; · iexact Hidx
        isplitl [Hemb]; · iexact Hemb
        isplitl [Hg]; · iexact Hg
        isplitl [Hcols]; · iexact Hcols
        isplitl [Hoth]; · iexact Hoth
        isplitl [HM]; · iexact HM
        iexact HS
      isplitl [HO]; · iexact HO
      isplitl [H3]; · iexact H3
      isplitl [H4]; · iexact H4
      isplitl [H5]; · iexact H5
      isplitl [H6]; · iexact H6
      iexact H7

/-- What a point leaves, the mean and the running words as `P` says of the next point. -/
theorem left_inv (P : ℕ → (S64x1.Idx → F .f32) → (S2.Idx → F .f32) → Prop) (c : Dev nD) (n : ℕ) (M : S64x1.Idx → F .f32) (S : S2.Idx → F .f32)
    (h : P n M S) : left0 adm V c M S ⊢ inv0 adm V P c n := by
  unfold inv0 left0
  iintro ⟨Hidx, Hemb, Hg, Hcols, Hoth, HM, HS⟩
  isplitl [Hidx]; · iexact Hidx
  isplitl [Hemb]; · iexact Hemb
  isplitl [Hg]; · iexact Hg
  isplitl [Hcols]; · iexact Hcols
  isplitl [Hoth]; · iexact Hoth
  iexists M; iexists S
  isplitr; · ipureintro; exact h
  isplitl [HM]; · iexact HM
  iexact HS

end Cert.Proof.KernelIdeal

end
-- ==== Proof.KernelIdeal.Forget.lean ====
/- The first call's body at every point, with nothing said of its two results. -/
module

public import proofs.«01_k».proof.Proof.KernelIdeal.Step

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F] [Named F]

local notation "𝕄" => MT nD τ sig Unit (Elt F) ℕ UU ℕ

variable (adm : (pcfg0 (F := F)).Adm)
variable (V : (c : Dev nD) → (b : Ref sig .tc) → Buf (Elt F) ((c : Thread nD τ).loc b))
variable (X3 : Dev nD → ℕ → S1x81920.Idx → F .f32) (X4 : Dev nD → S1x1.Idx → F .f32)

/-- The windows whose contents are left unsaid: the two results. -/
def fgt0 : Fin 5 → Bool
  | ⟨0, _⟩ => false
  | ⟨1, _⟩ => false
  | ⟨2, _⟩ => false
  | ⟨3, _⟩ => true
  | ⟨4, _⟩ => true

/-- Nothing said of the mean and the running words. -/
abbrev anyP : Dev nD → ℕ → (S64x1.Idx → F .f32) → (S2.Idx → F .f32) → Prop := fun _ _ _ _ => True

/-- The first call's body at every point, forgetting what it computes. -/
theorem body0_forget (hidx : ∀ j, (idx0 adm j).toNat < 999936) (c : Dev nD) :
    BodyObligationLoose (dat0 adm V anyP X3 X4 c) (defs₀ (F := F)) 𝒱₀ () Set.univ fgt0 := fun t => by
  rw [bigSep_W0, bigSep_W0]
  simp only [show fgt0 0 = false from rfl, show fgt0 1 = false from rfl, show fgt0 2 = false from rfl, show fgt0 3 = true from rfl, show fgt0 4 = true from rfl]
  rw [show (dat0 adm V anyP X3 X4 c).Φ t.castSucc = inv0 adm V (anyP c) c t.val from rfl,
    show (dat0 adm V anyP X3 X4 c).Φ t.succ = inv0 adm V (anyP c) c (t.val + 1) from rfl]
  unfold Dat.owesAt Pipeline.owesWithin
  iintro ⟨HΦ, ⟨%W, -, Ho⟩, ⟨%d0, H0⟩, ⟨%d1, H1⟩, ⟨%d2, H2⟩, ⟨%x3, H3⟩, ⟨%x4, H4⟩⟩
  rw [before0_0 adm V anyP X3 X4 c t d0, before0_1 adm V anyP X3 X4 c t d1, before0_2 adm V anyP X3 X4 c t d2]
  iapply (any_run adm V (anyP c) c hidx t _ _ _ _ _ _ _ _ _ _ (stg0 adm V c 0 t)
    ((win0 adm 1).fill (grid0.coords t) d1 (blk0 adm V c 1 t)) ((win0 adm 2).fill (grid0.coords t) d2 (blk0 adm V c 2 t)) x3 x4 _)
  isplitl [HΦ Ho H0 H1 H2 H3 H4]
  · isplitl [HΦ]; · iexact HΦ
    isplitl [Ho]; · iexists W; iexact Ho
    isplitl [H0]; · iexact H0
    isplitl [H1]; · iexact H1
    isplitl [H2]; · iexact H2
    isplitl [H3]; · iexact H3
    iexact H4
  iintro %M %S ⟨-, HL, ⟨%W', Ho⟩, H0, H1, H2, H3, H4⟩
  isplitl [HL]; · iapply (left_inv adm V (anyP c) c (t.val + 1) _ _ trivial); iexact HL
  isplitl [Ho]
  · iexists W'; isplitr; · ipureintro; exact fun _ _ => Or.inl trivial
    iexact Ho
  isplitl [H0]; · iexact H0
  isplitl [H1]
  · iexists d1
    change _ ⊢ owns (c : Thread nD τ) _ fullShare ((win0 adm 1).fill (grid0.coords t) d1 ((win0 adm 1).cut (grid0.coords t) (stg0 adm V c 1 t)))
    rw [show (win0 adm 1).cut (grid0.coords t) (stg0 adm V c 1 t) = blk0 adm V c 1 t from (win0 adm 1).cut_fill _ _ _]
    try iexact H1
  isplitl [H2]
  · iexists d2
    change _ ⊢ owns (c : Thread nD τ) _ fullShare ((win0 adm 2).fill (grid0.coords t) d2 ((win0 adm 2).cut (grid0.coords t) (stg0 adm V c 2 t)))
    rw [show (win0 adm 2).cut (grid0.coords t) (stg0 adm V c 2 t) = blk0 adm V c 2 t from (win0 adm 2).cut_fill _ _ _]
    try iexact H2
  isplitl [H3]; · iexists _; iexact H3
  iexists _; iexact H4

end Cert.Proof.KernelIdeal

end
-- ==== Proof.KernelIdeal.Records.lean ====
/- The two calls as segments of the host program: each entered from the buffers the host holds and left with its results written. -/
module

public import proofs.«01_k».proof.Proof.KernelIdeal.Forget
public import Idealize.ShloMosaic.Lib.Pipeline.RegionArraysF
public import Idealize.ShloMosaic.Lib.Pipeline.RegionsForgetR

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationLoose)

variable {F : FTy → Type} [FloatOps F] [Named F]

local notation "𝕄" => MT nD τ sig Unit (Elt F) ℕ UU ℕ

/-- No thread owes another: no level is assigned. -/
abbrev L₀ : GSem nD τ sig → Finset Unit := fun _ => ∅
/-- One level for every semaphore. -/
abbrev lv₀ : GSem nD τ sig → Unit → ℕ := fun _ _ => 0

/-- Contents of every buffer, core by core. -/
abbrev Vals (F : FTy → Type) : Type := Dev nD → Valuation τ sig (Elt F)
/-- The contents of a buffer. -/
abbrev Vals.at (V : Vals F) (c : Dev nD) (b : Ref sig .tc) : Buf (Elt F) ((c : Thread nD τ).loc b) := V c b

/-- What the first call may leave in its two results. -/
abbrev Out0 (F : FTy → Type) : Type := (S1x1000000.Idx → F .f32) × (S1x1.Idx → F .f32)

/-- The contents after the first call, its results at `o`. -/
def aft0 (V : Vals F) (o : Out0 F) : Vals F := fun c =>
  Function.update (Function.update (V c) (Proc.devRef .tc main_v12_0) o.1) (Proc.devRef .tc main_v12_1) o.2
/-- The contents after the second call, its result at `r`. -/
def aft1 (V : Vals F) (r : S1x1000000.Idx → F .f32) : Vals F := fun c => Function.update (V c) (Proc.devRef .tc main_v13) r

/-- The first call's row afterwards. -/
theorem aft0_0 (V : Vals F) (o : Out0 F) (c : Dev nD) : aft0 V o c (Proc.devRef .tc main_v12_0) = o.1 := by
  unfold aft0
  rw [Function.update_of_ne (StableHlo.devRef_ne_of_ne (by decide)), Function.update_self]
/-- The first call's word afterwards. -/
theorem aft0_1 (V : Vals F) (o : Out0 F) (c : Dev nD) : aft0 V o c (Proc.devRef .tc main_v12_1) = o.2 := by
  unfold aft0
  rw [Function.update_self]
/-- Other buffers keep their contents through the first call. -/
theorem aft0_of (V : Vals F) (o : Out0 F) (c : Dev nD) (b : Ref sig .tc) (h0 : b ≠ main_v12_0) (h1 : b ≠ main_v12_1) :
    aft0 V o c (Proc.devRef .tc b) = V c (Proc.devRef .tc b) := by
  unfold aft0
  rw [Function.update_of_ne (StableHlo.devRef_ne_of_ne h1), Function.update_of_ne (StableHlo.devRef_ne_of_ne h0)]
/-- The second call's result afterwards. -/
theorem aft1_2 (V : Vals F) (r) (c : Dev nD) : aft1 V r c (Proc.devRef .tc main_v13) = r := by
  unfold aft1
  rw [Function.update_self]
/-- Other buffers keep their contents through the second call. -/
theorem aft1_of (V : Vals F) (r) (c : Dev nD) (b : Ref sig .tc) (h : b ≠ main_v13) : aft1 V r c (Proc.devRef .tc b) = V c (Proc.devRef .tc b) := by
  unfold aft1
  rw [Function.update_of_ne (StableHlo.devRef_ne_of_ne h)]

/-- Proof data of a call that a segment does not run: anything. -/
def junkDat {cfg : Cfg sig Λ₀} (c : Dev nD) : Dat τ (Elt F) Unit ℕ UU ℕ cfg c where
  A _ := fun _ => Classical.arbitrary _
  after _ _ := fun _ => Classical.arbitrary _
  Φ _ := BI.emp
  q _ := fullShare
  owed _ := 0

variable (adm : (p : Fin 2) → (pcfgs (F := F) p).Adm)
variable (V : Vals F)

/-- The debts of a core: none. -/
abbrev noDebt (c : Dev nD) : sProp 𝕄 := iprop(∃ W : Waits sig Unit, owes (c : Thread nD τ) (0 : CellTallies nD τ sig Unit) W)

section First
variable (P : Dev nD → ℕ → (S64x1.Idx → F .f32) → (S2.Idx → F .f32) → Prop)
    (X3 : Dev nD → ℕ → S1x81920.Idx → F .f32) (X4 : Dev nD → S1x1.Idx → F .f32)

/-- Both calls' proof data, the first call's exact. -/
def pdats0 : (p : Fin 2) → (c : Dev nD) → Dat τ (Elt F) Unit ℕ UU ℕ (Pipeline.pin (pcfgs (F := F)) adm p) c
  | ⟨0, _⟩ => fun c => dat0 (adm 0) (Vals.at V) P X3 X4 c
  | ⟨1, _⟩ => fun c => junkDat c

/-- Which windows are left unsaid, per call. -/
def fgts (f : Fin 5 → Bool) : (p : Fin 2) → Fin (Pipeline.pin (pcfgs (F := F)) adm p).W → Bool
  | ⟨0, _⟩ => f
  | ⟨1, _⟩ => fun _ => false

/-- What is known of the first call's results, the windows of `f` left unsaid. -/
def Sel0 (f : Fin 5 → Bool) (o : Out0 F) (c : Dev nD) : Prop :=
  (f 3 = false → o.1 = (dat0 (adm 0) (Vals.at V) P X3 X4 c).arrAt (3 : Fin 5) grid0.N)
  ∧ (f 4 = false → o.2 = (dat0 (adm 0) (Vals.at V) P X3 X4 c).arrAt (4 : Fin 5) grid0.N)

/-- The unscoped buffers that are no window's array, nor the index array, nor the transposed table. -/
def bypass0 (c : Dev nD) : sProp 𝕄 :=
  bigSep ((((Finset.univ.filter fun b : Ref sig .tc => ¬ b.isScoped) \ Finset.univ.image (Pipeline.arrRef spec0)) \ Finset.univ.image pre0.ref).erase main_v9)
    fun b => ((c : Thread nD τ).loc b) ↦{fullShare} V c (Proc.devRef .tc b)

/-- What the first call's windows do not hold, in parts. -/
theorem rest0_split (c : Dev nD) :
    (Pipeline.unscopedRest spec0 c (Vals.at V c) : sProp 𝕄)
      = iprop(Pipeline.prefHeld pre0 c (fun _ => fullShare) (fun k => V c (Proc.devRef .tc (pre0.ref k))) ∗ embAt c (V c (Proc.devRef .tc main_v9)) fullShare ∗ bypass0 V c) := by
  rw [Pipeline.unscopedRest_split preFacts0 c (Vals.at V c)]
  unfold Pipeline.unscopedRestP bypass0
  rw [BI.bigSep_erase (i := main_v9) (by decide)]
  rfl

/-- The prefetched indices. -/
theorem pref0 (c : Dev nD) (T : pre0.Contents (Elt F)) : (Pipeline.prefHeld pre0 c (fun _ => fullShare) T : sProp 𝕄) = idxAt c (T (0 : Fin 1)) := by
  unfold Pipeline.prefHeld
  exact bigSep_univ_eq_bigSepL [(0 : Fin 1)] (by decide) (by decide) _

/-- The call's own semaphore. -/
theorem osem0 (c : Dev nD) : (Pipeline.ownSems0 (fun _ : Unit => SemLoc.dma (cc0_scratch3).sem) c : sProp 𝕄) = gcell c := by
  unfold Pipeline.ownSems0
  exact bigSep_univ_eq_bigSepL [()] (by decide) (by decide) _

/-- The call's own semaphore is no window's. -/
theorem ownSem0 : Pipeline.OwnSemFacts spec0 (fun _ : Unit => SemLoc.dma (cc0_scratch3).sem) := by decide

/-- The same with the index array's contents as prefetched. -/
theorem rest0_split' (c : Dev nD) (T : pre0.Contents (Elt F)) (hT : (fun k => V c (Proc.devRef .tc (pre0.ref k))) = T) :
    (Pipeline.unscopedRest spec0 c (Vals.at V c) : sProp 𝕄)
      = iprop(Pipeline.prefHeld pre0 c (fun _ => fullShare) T ∗ embAt c (V c (Proc.devRef .tc main_v9)) fullShare ∗ bypass0 V c) := by
  rw [rest0_split, hT]

/-- An input array keeps its contents. -/
theorem arrAt0_in (c : Dev nD) (w : Fin 5) (hw : ((win0 (adm 0)) w).isOut = false) :
    (pdats0 adm V P X3 X4 0 c).arrAt w grid0.N = V c (Proc.devRef .tc (Pipeline.arrRef spec0 w)) :=
  (pdats0 adm V P X3 X4 0 c).arrAt_in w hw _

/-- The five windows. -/
theorem window0_cases (w : Fin 5) : w = 0 ∨ w = 1 ∨ w = 2 ∨ w = 3 ∨ w = 4 := by
  fin_cases w <;> decide

/-- The arrays after the call. -/
theorem final0 (f : Fin 5 → Bool) (hf : f 0 = false ∧ f 1 = false ∧ f 2 = false) (c : Dev nD)
    (A : (w : Fin 5) → Buf (Elt F) (((cfg0 (adm 0)).win w).arr.view.loc (c : Thread nD τ)))
    (hA : ∀ w, f w = false → A w = (pdats0 adm V P X3 X4 0 c).arrAt w grid0.N) (w : Fin 5) :
    A w = Vals.at (aft0 V (A (3 : Fin 5), A (4 : Fin 5))) c (Pipeline.arrRef spec0 w) := by
  rcases window0_cases w with rfl | rfl | rfl | rfl | rfl
  · exact (hA _ hf.1).trans ((arrAt0_in adm V P X3 X4 c 0 rfl).trans (aft0_of V _ c main_v8 (by decide) (by decide)).symm)
  · exact (hA _ hf.2.1).trans ((arrAt0_in adm V P X3 X4 c 1 rfl).trans (aft0_of V _ c main_v10 (by decide) (by decide)).symm)
  · exact (hA _ hf.2.2).trans ((arrAt0_in adm V P X3 X4 c 2 rfl).trans (aft0_of V _ c main_v11 (by decide) (by decide)).symm)
  · exact (aft0_0 V (A (3 : Fin 5), A (4 : Fin 5)) c).symm
  · exact (aft0_1 V (A (3 : Fin 5), A (4 : Fin 5)) c).symm

/-- The other buffers after the call. -/
theorem others0 (c : Dev nD) (o : Out0 F) (b : Ref sig .tc) (hb : b ∉ Finset.univ.image (Pipeline.arrRef spec0)) :
    Vals.at (aft0 V o) c b = Vals.at V c b :=
  aft0_of V o c b (fun h => hb (by rw [h]; exact Finset.mem_image.mpr ⟨(3 : Fin 5), Finset.mem_univ _, rfl⟩))
    (fun h => hb (by rw [h]; exact Finset.mem_image.mpr ⟨(4 : Fin 5), Finset.mem_univ _, rfl⟩))

set_option backward.isDefEq.respectTransparency.types false in
/-- The arrays, put back among the buffers. -/
theorem join0 (f : Fin 5 → Bool) (hf : f 0 = false ∧ f 1 = false ∧ f 2 = false) (c : Dev nD)
    (A : (w : Fin 5) → Buf (Elt F) (((cfg0 (adm 0)).win w).arr.view.loc (c : Thread nD τ)))
    (hA : ∀ w, f w = false → A w = (pdats0 adm V P X3 X4 0 c).arrAt w grid0.N) :
    iprop((pdats0 adm V P X3 X4 0 c).arrays A ∗ Pipeline.unscopedRest (Pipeline.pin (pcfgs (F := F)) adm 0).spec c (Vals.at V c))
      ⊢ (unscopedBufs c (Vals.at (aft0 V (A (3 : Fin 5), A (4 : Fin 5))) c) : sProp 𝕄) :=
  Pipeline.unscopedBufs_of_arrays (p := 0) (pcfgs (F := F)) adm (Ix := Unit) (Name := ℕ) (U := UU) (Lvl := ℕ) (launch0 (F := F)).win (launch0 (F := F)).arr_whole c
    (pdats0 adm V P X3 X4) ((pdats0 adm V P X3 X4 0 c).share_full fun _ => rfl) (Vals.at V c) (Vals.at (aft0 V (A (3 : Fin 5), A (4 : Fin 5))) c) A
    (final0 adm V P X3 X4 f hf c A hA) (others0 V c _)

/-- The rest, put back among the buffers. -/
theorem rest0_back (c : Dev nD) (T : pre0.Contents (Elt F)) (hT : (fun k => V c (Proc.devRef .tc (pre0.ref k))) = T) :
    iprop(idxAt c (T (0 : Fin 1)) ∗ embAt c (V c (Proc.devRef .tc main_v9)) fullShare ∗ bypass0 V c)
      ⊢ (Pipeline.unscopedRest spec0 c (Vals.at V c) : sProp 𝕄) := by
  rw [rest0_split' V c T hT, pref0]

/-- Leaving the first call. -/
theorem exit0 (f : Fin 5 → Bool) (hf : f 0 = false ∧ f 1 = false ∧ f 2 = false)
    (hT : ∀ c, (fun k => V c (Proc.devRef .tc (pre0.ref k))) = (adm 0).1) (c : Dev nD) :
    iprop(((pdats0 adm V P X3 X4 0 c).toRForget f).arraysAt grid0.N ∗ (pdats0 adm V P X3 X4 0 c).owesAt () (Fin.last grid0.N)
        ∗ (idxAt c (idx0 (adm 0)) ∗ embAt c (V c (Proc.devRef .tc main_v9)) fullShare) ∗ bypass0 V c)
      ⊢ |={Set.univ}=> iprop(∃ o : Out0 F, unscopedBufs c (Vals.at (aft0 V o) c) ∗ ⌜Sel0 adm V P X3 X4 f o c⌝ ∗ noDebt c) := by
  iintro ⟨Ha, HO, ⟨Hp, He⟩, Hb⟩
  ihave Ha := ((pdats0 adm V P X3 X4 0 c).arraysAt_forget f grid0.N) $$ Ha
  icases Ha with ⟨%A, %hA, Ha⟩
  have hjoin := join0 adm V P X3 X4 f hf c A hA
  have hr := rest0_back V c (adm 0).1 (hT c)
  ihave Hr := hr $$ [Hp He Hb]
  · isplitl [Hp]; · iexact Hp
    isplitl [He]; · iexact He
    iexact Hb
  ihave Hu := hjoin $$ [Ha Hr]
  · isplitl [Ha]; · iexact Ha
    iexact Hr
  imodintro
  iexists (A (3 : Fin 5), A (4 : Fin 5))
  isplitl [Hu]; · iexact Hu
  isplitr; · ipureintro; exact ⟨fun h => hA (3 : Fin 5) h, fun h => hA (4 : Fin 5) h⟩
  unfold Pipeline.Dat.owesAt Pipeline.owesWithin
  icases HO with ⟨%W, -, HO⟩; iexists W; iexact HO

set_option backward.isDefEq.respectTransparency.types false in
/-- THE FIRST CALL, the windows of `f` left unsaid. -/
def reg0 (f : Fin 5 → Bool) (hf : f 0 = false ∧ f 1 = false ∧ f 2 = false)
    (hT : ∀ c, (fun k => V c (Proc.devRef .tc (pre0.ref k))) = (adm 0).1) (hP : ∀ c M S, P c 0 M S)
    (hbody : ∀ c, BodyObligationLoose (dat0 (adm 0) (Vals.at V) P X3 X4 c) (defs₀ (F := F)) 𝒱₀ () Set.univ f) :
    RDat.RegionSeg (pcfgs (F := F)) adm (Pipeline.toRsF (pcfgs (F := F)) adm (pdats0 adm V P X3 X4) (fgts adm f)) () defs₀ 𝒱₀ L₀ lv₀ 0 where
  win := (launch0 (F := F)).win.to₀
  block_pos := (launch0 (F := F)).block_pos
  stage_whole := (launch0 (F := F)).stage_whole
  K := Unit
  osem _ := .dma (cc0_scratch3).sem
  ho := ownSem0
  hbody c := (hbody c).toRForget
  hwaits := RDat.hwaits_of_owed_zero _ _ _ _ L₀ lv₀ 0 fun _ _ => rfl
  pre c := iprop(unscopedBufs c (Vals.at V c) ∗ noDebt c)
  post c := iprop(∃ o : Out0 F, unscopedBufs c (Vals.at (aft0 V o) c) ∗ ⌜Sel0 adm V P X3 X4 f o c⌝ ∗ noDebt c)
  X c := iprop(gcell c ∗ embAt c (V c (Proc.devRef .tc main_v9)) fullShare)
  Y c := iprop(idxAt c (idx0 (adm 0)) ∗ embAt c (V c (Proc.devRef .tc main_v9)) fullShare)
  Z c := bypass0 V c
  hentry c := by
    have hsplit := Pipeline.arrays_of_unscopedBufs (p := 0) (pcfgs (F := F)) adm (pdats0 adm V P X3 X4) (launch0 (F := F)).win (launch0 (F := F)).arr_whole c
      ((pdats0 adm V P X3 X4 0 c).share_full fun _ => rfl) (Vals.at V c) fun _ => rfl
    rw [osem0]
    show _ ⊢ |={Set.univ}=> iprop((pdats0 adm V P X3 X4 0 c).arrays ((pdats0 adm V P X3 X4 0 c).arrAt · 0)
      ∗ Pipeline.prefHeld pre0 c (fun _ => fullShare) (adm 0).1 ∗ (pdats0 adm V P X3 X4 0 c).owesAt () 0
      ∗ (gcell c ∗ embAt c (V c (Proc.devRef .tc main_v9)) fullShare) ∗ bypass0 V c)
    iintro ⟨⟨Hub, HO⟩, Hg, -⟩
    ihave H := hsplit $$ Hub
    icases H with ⟨Ha, Hrest⟩
    have hr : (Pipeline.unscopedRest (Pipeline.pin (pcfgs (F := F)) adm 0).spec c (Vals.at V c) : sProp 𝕄) ⊢ _ := Entails.of_eq (rest0_split' V c (adm 0).1 (hT c))
    ihave Hrest := hr $$ Hrest
    icases Hrest with ⟨Hp, He, Hb⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitl [Hg He]
    · isplitl [Hg]; · iexact Hg
      iexact He
    iexact Hb
  hin c := by
    show iprop((gcell c ∗ embAt c (V c (Proc.devRef .tc main_v9)) fullShare) ∗ Pipeline.prefHeld pre0 c (fun _ => fullShare) (adm 0).1 ∗ Pipeline.scopedRest spec0 c)
      ⊢ inv0 (adm 0) (Vals.at V) (P c) c 0
    rw [pref0, scopedRest0_eq]
    unfold inv0 others
    iintro ⟨⟨Hg, He⟩, Hp, ⟨%f0, H0⟩, H1, H2, H3, H4, H5, ⟨%f6, H6⟩, H7⟩
    isplitl [Hp]; · iexact Hp
    isplitl [He]; · iexact He
    isplitl [Hg]; · iexact Hg
    isplitl [H1]; · iexact H1
    isplitl [H2 H3 H4 H5 H7]
    · isplitl [H2]; · iexact H2
      isplitl [H3]; · iexact H3
      isplitl [H4]; · iexact H4
      isplitl [H5]; · iexact H5
      iexact H7
    iexists f0; iexists f6
    isplitr; · ipureintro; exact hP c f0 f6
    isplitl [H0]; · iexact H0
    iexact H6
  hout c := by
    show inv0 (adm 0) (Vals.at V) (P c) c grid0.N ⊢ iprop((idxAt c (idx0 (adm 0)) ∗ embAt c (V c (Proc.devRef .tc main_v9)) fullShare)
      ∗ Pipeline.ownSems0 (fun _ : Unit => SemLoc.dma (cc0_scratch3).sem) c ∗ Pipeline.scopedRest spec0 c)
    rw [scopedRest0_eq, osem0]
    unfold inv0 others
    iintro ⟨Hp, He, Hg, H1, ⟨H2, H3, H4, H5, H7⟩, %M, %S, -, H0, H6⟩
    isplitl [Hp He]
    · isplitl [Hp]; · iexact Hp
      iexact He
    isplitl [Hg]; · iexact Hg
    isplitl [H0]; · iexists M; iexact H0
    isplitl [H1]; · iexact H1
    isplitl [H2]; · iexact H2
    isplitl [H3]; · iexact H3
    isplitl [H4]; · iexact H4
    isplitl [H5]; · iexact H5
    isplitl [H6]; · iexists S; iexact H6
    iexact H7
  hexit c := exit0 adm V P X3 X4 f hf hT c

end First

/-! ## The second call -/

/-- Both calls' proof data, the second call's exact. -/
def pdats1 : (p : Fin 2) → (c : Dev nD) → Dat τ (Elt F) Unit ℕ UU ℕ (Pipeline.pin (pcfgs (F := F)) adm p) c
  | ⟨0, _⟩ => fun c => junkDat c
  | ⟨1, _⟩ => fun c => dat1 (Vals.at V) c

/-- What the second call leaves in its result. -/
def res1 (c : Dev nD) : S1x1000000.Idx → F .f32 := (dat1 (Vals.at V) c).arrAt (2 : Fin 3) grid1.N

/-- The one core. -/
abbrev core : Dev nD := 0
/-- There is one core. -/
theorem core_eq (c : Dev nD) : c = core := Subsingleton.elim _ _

set_option backward.isDefEq.respectTransparency.types false in
/-- THE SECOND CALL. -/
def reg1 : Pipeline.RegionSeg (pcfgs (F := F)) adm (pdats1 adm V) () defs₀ 𝒱₀ L₀ lv₀ 1 where
  win := (launch1 (F := F)).win.to₀
  block_pos := (launch1 (F := F)).block_pos
  stage_whole := (launch1 (F := F)).stage_whole
  K := PEmpty
  osem k := k.elim
  ho := Pipeline.OwnSemFacts.none _
  hbody c := body1 (Vals.at V) c
  hwaits := Pipeline.hwaits_of_owed_zero _ _ _ _ L₀ lv₀ 1 fun _ _ => rfl
  pre c := iprop(unscopedBufs c (Vals.at V c) ∗ noDebt c)
  post c := iprop(unscopedBufs c (Vals.at (aft1 V (res1 V core)) c) ∗ noDebt c)
  X _ := BI.emp
  Y _ := BI.emp
  Z c := Pipeline.unscopedRest (Ix := Unit) (Name := ℕ) (U := UU) (Lvl := ℕ) spec1 c (Vals.at V c)
  hentry c := by
    rw [Pipeline.ownSems0_none]
    have hsplit := Pipeline.arrays_of_unscopedBufs (p := 1) (pcfgs (F := F)) adm (pdats1 adm V) (launch1 (F := F)).win (launch1 (F := F)).arr_whole c
      ((pdats1 adm V 1 c).share_full fun _ => rfl) (Vals.at V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats1 adm V 1 c).Φ 0 = Pipeline.scopedRest (Ix := Unit) (Name := ℕ) (U := UU) (Lvl := ℕ) (Val := Elt F) spec1 c from rfl]
    iintro ⟨-, -, Hr⟩; iexact Hr
  hout c := by
    rw [Pipeline.ownSems0_none, show (pdats1 adm V 1 c).Φ (Fin.last _) = Pipeline.scopedRest (Ix := Unit) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UU) (Lvl := ℕ) (launch1 (F := F)).win (launch1 (F := F)).arr_whole c
      (pdats1 adm V) ((pdats1 adm V 1 c).share_full fun _ => rfl) (Vals.at V c) (Vals.at (aft1 V (res1 V core)) c) ((pdats1 adm V 1 c).arrAt · grid1.N)
      (fun w => by
        fin_cases w
        · exact ((pdats1 adm V 1 c).arrAt_in (0 : Fin 3) rfl _).trans (aft1_of V _ c main_v12_0 (by decide)).symm
        · exact ((pdats1 adm V 1 c).arrAt_in (1 : Fin 3) rfl _).trans (aft1_of V _ c main_v12_1 (by decide)).symm
        · obtain rfl := core_eq c
          exact (aft1_2 V _ core).symm)
      (fun b hb => aft1_of V _ c b fun h => hb (h ▸ Finset.mem_image.mpr ⟨(2 : Fin 3), Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Proof.KernelIdeal

end
-- ==== Proof.KernelIdeal.Run.lean ====
/- The whole program from launch to end: the host's operations, then the two calls. -/
module

public import proofs.«01_k».proof.Proof.KernelIdeal.Records
public import proofs.«01_k».proof.Proof.Gen.KernelIdeal.Regions
public import Idealize.ShloMosaic.Lib.Pipeline.RegionsLoop
public import Idealize.ShloMosaic.Lib.Pipeline.RegionsForgetLinks
public import Idealize.ShloMosaic.Lib.HostLoop.Lifted

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationLoose)

variable {F : FTy → Type} [FloatOps F] [Named F]

local notation "𝕄" => MT nD τ sig Unit (Elt F) ℕ UU ℕ

/-- The rounds algebra of the two calls, and in it the first call's and the second's. -/
abbrev EC : Emb (UR sig nD τ × UR sig nD τ) (MT nD τ sig Unit (Elt F) ℕ UU ℕ) := embL
/-- The first call's copy of the rounds algebra. -/
def E0 : Emb (UR sig nD τ) (MT nD τ sig Unit (Elt F) ℕ UU ℕ) := (Emb.inl : Emb (UR sig nD τ) (UR sig nD τ × UR sig nD τ)).trans EC
/-- The second call's copy of the rounds algebra. -/
def E1 : Emb (UR sig nD τ) (MT nD τ sig Unit (Elt F) ℕ UU ℕ) := (Emb.inr : Emb (UR sig nD τ) (UR sig nD τ × UR sig nD τ)).trans EC
instance E0_lands : (E0 : Emb (UR sig nD τ) 𝕄).LandsIn (upEmb : UEmb _ 𝕄) := by unfold E0 EC embL; infer_instance
instance E1_lands : (E1 : Emb (UR sig nD τ) 𝕄).LandsIn (upEmb : UEmb _ 𝕄) := by unfold E1 EC embL; infer_instance

/-- No host loop. -/
abbrev loops : Fin 0 → Prog (TpuEff nD τ sig (Elt F) (HostLoop.Sig (Pipeline.Sig Λ₀ (Fin 2) fun p => (pcfgs (F := F) p).Adm) 0) .tc) PUnit := fun l => l.elim0

/-- The program's chain of items. -/
theorem main_chainL (c : Dev nD) : HostLoop.liftProg (L := 0) (main (F := F) c) = Pipeline.chain
    [StableHlo.seq hostOps0, StableHlo.seq hostOps0_1, StableHlo.seq hostOps0_2,
      Prog.lift (.customCall (HostLoop.inner (Pipeline.entry 0)) ()), Prog.lift (.customCall (HostLoop.inner (Pipeline.entry 1)) ())] := by
  rw [main_chain, HostLoop.liftProg_chain]
  simp only [List.map_cons, List.map_nil, HostLoop.liftProg_seq]
  rfl

variable (m : (ℓ : Loc nD τ sig) → Buf (Elt F) ℓ)

/-- The prefetched indices: the index array at launch. -/
def admOf : (p : Fin 2) → (pcfgs (F := F) p).Adm
  | ⟨0, _⟩ => ⟨fun k => V3 m core (Proc.devRef .tc (pre0.ref k)), trivial⟩
  | ⟨1, _⟩ => ⟨fun k => k.elim0, trivial⟩

/-- The prefetched indices are those the call is proved for. -/
theorem admOf_eq (c : Dev nD) : (fun k => V3 m c (Proc.devRef .tc (pre0.ref k))) = (admOf m 0).1 := by
  obtain rfl := core_eq c; rfl

/-- The two calls' tickets. -/
def tk : Fin 2 → Pipeline.Ticket (Ix := Unit) (Name := ℕ) (U := UU) (Lvl := ℕ) (nD := nD) (τ := τ) (pcfgs (F := F)) (admOf m)
  | ⟨0, _⟩ => { p := 0, pdats := fun _ c => junkDat c, EP := E0 }
  | ⟨1, _⟩ => { p := 1, pdats := fun _ c => junkDat c, EP := E1 }

/-- Owning an element through every ticket is owning it in both copies of the rounds algebra. -/
theorem tickets_own (x : UR sig nD τ) : (bigSep Finset.univ fun j => BI.own ((tk m j).EP x) : sProp 𝕄) = iprop(BI.own (E0 x) ∗ BI.own (E1 x)) :=
  bigSep_univ_eq_bigSepL [(0 : Fin 2), 1] (by decide) (by decide) _

/-- A stretch of the program. -/
abbrev KitSeg : Type 1 := Pipeline.CSeg (pcfgs (F := F)) (admOf m) defs₀ 𝒱₀ L₀ lv₀ loops (tk m)

/-- The host's three stretches. -/
abbrev host0 : KitSeg m :=
  Pipeline.CSeg.ofOps _ _ _ _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) noDebt
/-- The second host stretch. -/
abbrev host1 : KitSeg m :=
  Pipeline.CSeg.ofOps _ _ _ _ _ _ _ _ (Pipeline.ucRefs τ sig) hostOps0_1
    (fun op h => Pipeline.sub_ucRefs op ((List.forall_iff_forall_mem.mp hostOps0_1_sub) op h))
    (fun op h => (List.forall_iff_forall_mem.mp hostOps0_1_fresh) op h) (V1 m) noDebt
/-- The third host stretch. -/
abbrev host2 : KitSeg m :=
  Pipeline.CSeg.ofOps _ _ _ _ _ _ _ _ (Pipeline.ucRefs τ sig) hostOps0_2
    (fun op h => Pipeline.sub_ucRefs op ((List.forall_iff_forall_mem.mp hostOps0_2_sub) op h))
    (fun op h => (List.forall_iff_forall_mem.mp hostOps0_2_fresh) op h) (V2 m) noDebt

section Run
variable (P : Dev nD → ℕ → (S64x1.Idx → F .f32) → (S2.Idx → F .f32) → Prop)
    (X3 : Dev nD → ℕ → S1x81920.Idx → F .f32) (X4 : Dev nD → S1x1.Idx → F .f32)
    (f : Fin 5 → Bool) (hf : f 0 = false ∧ f 1 = false ∧ f 2 = false) (hP : ∀ c M S, P c 0 M S)
    (hbody : ∀ c, BodyObligationLoose (dat0 (admOf m 0) (Vals.at (V3 m)) P X3 X4 c) (defs₀ (F := F)) 𝒱₀ () Set.univ f)

/-- The first call. -/
abbrev call0 : KitSeg m :=
  Pipeline.CSeg.regionAtR (pcfgs (F := F)) (admOf m) () (cellOf_inj (admOf m)) defs₀ 𝒱₀ L₀ lv₀ loops (tk m) (0 : Fin 2)
    (Pipeline.toRsF (pcfgs (F := F)) (admOf m) (pdats0 (admOf m) (V3 m) P X3 X4) (fgts (admOf m) f))
    (reg0 (admOf m) (V3 m) P X3 X4 f hf (admOf_eq m) hP hbody)

/-- What is known of the first call's results. -/
abbrev known : Out0 F → Dev nD → Prop := fun o c => Sel0 (admOf m) (V3 m) P X3 X4 f o c

/-- The second call, at whatever the first has left. -/
abbrev call1 : KitSeg m :=
  Pipeline.CSeg.regionF (pcfgs (F := F)) (admOf m) () (cellOf_inj (admOf m)) defs₀ 𝒱₀ L₀ lv₀ loops (tk m) (1 : Fin 2)
    (fun o => pdats1 (admOf m) (aft0 (V3 m) o)) (fun o => reg1 (admOf m) (aft0 (V3 m) o)) (known m P X3 X4 f)

/-- The program's stretches. -/
abbrev segs : List (KitSeg m) := [host0 m, host1 m, host2 m, call0 m P X3 X4 f hf hP hbody, call1 m P X3 X4 f]

/-- The buffers at the end. -/
abbrev endVal (o : Out0 F) : Vals F := aft1 (aft0 (V3 m) o) (res1 (aft0 (V3 m) o) core)

/-- The last state: the buffers at the end's contents for some results of the first call. -/
abbrev Tend (c : Dev nD) : sProp 𝕄 :=
  iprop(∃ o, unscopedBufs c (Vals.at (endVal m o) c) ∗ ⌜known m P X3 X4 f o c⌝)

/-- The host hands over to the first call. -/
theorem link0 (c : Dev nD) : (host2 m).post c ⊢ (call0 m P X3 X4 f hf hP hbody).pre c := by
  show iprop(StableHlo.held (c : Thread nD τ) (Pipeline.ucRefs τ sig) (V3 m c) ∗ noDebt c) ⊢ iprop(unscopedBufs c (Vals.at (V3 m) c) ∗ noDebt c)
  rw [show (unscopedBufs c (Vals.at (V3 m) c) : sProp 𝕄) = StableHlo.held (c : Thread nD τ) (Pipeline.ucRefs τ sig) (V3 m c) from Pipeline.unscopedBufs_held c (V3 m c)]

/-- The first call hands over to the second. -/
theorem link1 (c : Dev nD) : (call0 m P X3 X4 f hf hP hbody).post c ⊢ (call1 m P X3 X4 f).pre c := by
  refine Pipeline.CSeg.regionF_pre (A := fun o => unscopedBufs c (Vals.at (aft0 (V3 m) o) c)) (E := noDebt c) c fun o _ => ?_
  exact BI.Entails.refl _

/-- The second call ends the program. -/
theorem link2 (c : Dev nD) : (call1 m P X3 X4 f).post c ⊢ iprop(Tend m P X3 X4 f c ∗ ∃ W, owes (c.tc : Thread nD τ) (0 : CellTallies nD τ sig Unit) W) := by
  refine Pipeline.CSeg.regionF_post c fun o ho => ?_
  show iprop(unscopedBufs c (Vals.at (endVal m o) c) ∗ noDebt c) ⊢ _
  iintro ⟨Hb, HO⟩
  isplitl [Hb]
  · iexists o; isplitl [Hb]; · iexact Hb
    ipureintro; exact ho
  iexact HO

/-- The calls share no semaphore cell. -/
theorem segs_disjoint : (segs m P X3 X4 f hf hP hbody).Pairwise fun s s' => Disjoint s.T s'.T := by
  rw [show segs m P X3 X4 f hf hP hbody = [host0 m, host1 m, host2 m, call0 m P X3 X4 f hf hP hbody, call1 m P X3 X4 f] from rfl]
  simp only [List.pairwise_cons, List.mem_cons, List.mem_nil_iff, or_false, forall_eq_or_imp, forall_eq, List.Pairwise.nil, and_true, false_imp_iff, implies_true, IsEmpty.forall_iff]
  refine ⟨⟨?_, ?_, ?_, ?_⟩, ⟨?_, ?_, ?_⟩, ⟨?_, ?_⟩, ?_⟩ <;>
    first | exact Finset.disjoint_empty_left _ | exact (by decide : Disjoint ({0} : Finset (Fin 2)) {1})

set_option backward.isDefEq.respectTransparency.types false in
/-- THE LAUNCH: every buffer at its first contents, nothing owed. -/
theorem launch (g : Dev nD → PrngReg) :
    iprop((bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (g c) ∗ BI.emp)) ∗ levAts L₀ lv₀)
      ⊢ (|={Set.univ}=> bigSep Finset.univ (host0 m).pre : sProp 𝕄) := by
  have h1 (c : Dev nD) : (iprop(unscopedBufs c (fun b => m ((c.tc : Thread nD τ).loc b)) ∗ unscopedSems0 c
      ∗ owes (c.tc : Thread nD τ) (0 : CellTallies nD τ sig Unit) ∅ ∗ Pipeline.launchCred (fun _ => 0) c ∗ prngReg c (g c) ∗ BI.emp) : sProp 𝕄) ⊢ (host0 m).pre c := by
    show _ ⊢ iprop(StableHlo.held (c : Thread nD τ) (Pipeline.ucRefs τ sig) (V0 m c) ∗ noDebt c)
    rw [← Pipeline.unscopedBufs_held (Ix := Unit) (Name := ℕ) (U := UU) (Lvl := ℕ) c (V0 m c)]
    iintro ⟨Hb, -, HO, -⟩
    isplitl [Hb]; · iexact Hb
    iexists ∅; iexact HO
  iintro ⟨H, -⟩
  imodintro
  iapply (show (bigSep Finset.univ fun c : Dev nD => iprop(unscopedBufs c (fun b => m ((c.tc : Thread nD τ).loc b)) ∗ unscopedSems0 c
      ∗ owes (c.tc : Thread nD τ) (0 : CellTallies nD τ sig Unit) ∅ ∗ Pipeline.launchCred (fun _ => 0) c ∗ prngReg c (g c) ∗ BI.emp) : sProp 𝕄)
    ⊢ bigSep Finset.univ (host0 m).pre from bigSep_mono fun c _ => h1 c) $$ H

/-- What the end says of the memory. -/
def Final (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3))
  ∧ ∃ o, known m P X3 X4 f o c ∧ s.mem ((c.tc : Thread nD τ).loc main_v13) = res1 (aft0 (V3 m) o) core

/-- An argument keeps its contents to the end. -/
theorem endVal_arg (o : Out0 F) (c : Dev nD) (b : Ref sig .tc) (h0 : b ∉ hostOps0_W) (h1 : b ∉ hostOps0_1_W) (h2 : b ∉ hostOps0_2_W)
    (h3 : b ≠ main_v12_0) (h4 : b ≠ main_v12_1) (h5 : b ≠ main_v13) : endVal m o c (Proc.devRef .tc b) = m ((c.tc : Thread nD τ).loc b) :=
  (aft1_of _ _ c b h5).trans ((aft0_of _ _ c b h3 h4).trans ((V3_of m c b h2).trans ((V2_of m c b h1).trans (V1_of m c b h0))))

set_option backward.isDefEq.respectTransparency.types false in
/-- What the end holds is in the memory. -/
theorem final (c : Dev nD) (s' : Phys nD τ sig (Elt F)) :
    (iprop(Tend m P X3 X4 f c ∗ SI s') : sProp 𝕄) ⊢ |={Set.univ}=> iprop(⌜Final m P X3 X4 f c s'.mem⌝ ∗ SI s') := by
  iintro ⟨⟨%o, Hb, %ho⟩, HSI⟩
  ihave Hh := (Entails.of_eq (show (unscopedBufs c (Vals.at (endVal m o) c) : sProp 𝕄) = StableHlo.held (c : Thread nD τ) (Pipeline.ucRefs τ sig) (endVal m o c)
    from Pipeline.unscopedBufs_held c (endVal m o c))) $$ Hb
  unfold StableHlo.held
  ihave Hr := (pointsTo_read_all (Pipeline.ucRefs τ sig) (fun b => ((c : Thread nD τ).1, b)) (endVal m o c) s') $$ [Hh HSI]
  · isplitl [Hh] <;> iassumption
  icases Hr with ⟨%h, HSI⟩
  imodintro
  isplitr
  · ipureintro
    have hr (b : Ref sig .tc) (hb : b.isScoped = false) := h (Proc.devRef .tc b) (Finset.mem_filter.mpr ⟨StableHlo.devRef_mem_tcRefs b, by simpa using hb⟩)
    exact ⟨⟨(hr main_arg0 rfl).trans (endVal_arg m o c main_arg0 (by decide) (by decide) (by decide) (by decide) (by decide) (by decide)),
      (hr main_arg1 rfl).trans (endVal_arg m o c main_arg1 (by decide) (by decide) (by decide) (by decide) (by decide) (by decide)),
      (hr main_arg2 rfl).trans (endVal_arg m o c main_arg2 (by decide) (by decide) (by decide) (by decide) (by decide) (by decide)),
      (hr main_arg3 rfl).trans (endVal_arg m o c main_arg3 (by decide) (by decide) (by decide) (by decide) (by decide) (by decide))⟩,
      o, ho, (hr main_v13 rfl).trans (aft1_2 _ _ c)⟩
  · iexact HSI

include hf hP hbody

set_option backward.isDefEq.respectTransparency.types false in
/-- The run of the chain. -/
theorem runL (g : Dev nD → PrngReg) :
    θ_run (HostLoop.defs (L := 0) loops (Pipeline.defs (pcfgs (F := F)) defs₀)) (onTc (τ := τ) fun c => HostLoop.liftProg (L := 0) (main (F := F) c)) ⟨m, fun _ => 0, g⟩
      (fun r => (∀ c, Final m P X3 X4 f c r.2) ∧ r.2.sem = fun _ => 0) :=
  Pipeline.θ_run_regions_loop_kit_sems (pcfgs (F := F)) (admOf m) (cellOf_inj (admOf m)) defs₀ 𝒱₀ L₀ lv₀ loops (tk m) m g _
    (segs m P X3 X4 f hf hP hbody)
    (fun c Q => by
      rw [main_chainL c]
      exact BI.Entails.refl _)
    (segs_disjoint m P X3 X4 f hf hP hbody)
    (O₀ := fun _ => 0) (hL := fun _ _ => rfl) (G := fun _ => BI.emp)
    (u₀ := ((Rounds.initOf (Pipeline.cells (Pipeline.pin (pcfgs (F := F)) (admOf m)) (cellOf_inj (admOf m))) (Pipeline.launchToks (Pipeline.pin (pcfgs (F := F)) (admOf m)) (cellOf_inj (admOf m))),
      Rounds.initOf (Pipeline.cells (Pipeline.pin (pcfgs (F := F)) (admOf m)) (cellOf_inj (admOf m))) (Pipeline.launchToks (Pipeline.pin (pcfgs (F := F)) (admOf m)) (cellOf_inj (admOf m)))), 1))
    (hu₀ := by
      iintro Hu
      ihave H := (ownU_pair _ _) $$ Hu
      icases H with ⟨HA, -⟩
      ihave H := (own_pair_emb embL _ _) $$ HA
      icases H with ⟨H0, H1⟩
      imodintro
      isplitl [H0 H1]
      · rw [tickets_own m]
        isplitl [H0]; · iexact H0
        iexact H1
      · rw [bigSep_emp_const]; iempintro)
    (T₀ := (host0 m).pre) (Tₙ := Tend m P X3 X4 f)
    (hch := ⟨fun _ => .rfl, fun _ => .rfl, fun _ => .rfl, link0 m P X3 X4 f hf hP hbody, link1 m P X3 X4 f hf hP hbody, link2 m P X3 X4 f⟩)
    (hinit := launch m g)
    (QY := Final m P X3 X4 f)
    (hfin := final m P X3 X4 f)
    (hQ := fun _ h hz => ⟨h, funext fun g => hz g (.inr (regions_no_unscoped g.2))⟩)

/-- THE RUN: every weakly fair execution terminates, the arguments and every counter as at launch, the result the second call's at what the first left. -/
theorem run (g : Dev nD → PrngReg) : θ_run defs (onTc (τ := τ) (main (F := F))) ⟨m, fun _ => 0, g⟩
    (fun r => (∀ c, Final m P X3 X4 f c r.2) ∧ r.2.sem = fun _ => 0) :=
  HostLoop.θ_run_of_lift (fun l => l.elim0) _ main _ _ (runL m P X3 X4 f hf hP hbody g)

end Run

end Cert.Proof.KernelIdeal

end
-- ==== Proof.KernelIdeal.Frame.lean ====
/- The program runs to the end, its arguments and its counters as at launch. -/
module

public import proofs.«01_k».proof.Proof.KernelIdeal.Run

@[expose] public section

noncomputable section

namespace Cert.Proof.KernelIdeal

open Cert.KernelIdeal Cert.KernelIdeal.Gen
open Idealize.ShloMosaic Idealize.ShloMosaic.TcCoe
open Idealize.SL.Sem

variable {F : FTy → Type} [FloatOps F] [Named F]

variable (m : (ℓ : Loc nD τ sig) → Buf (Elt F) ℓ)

/-- The prefetched indices are the index argument. -/
theorem idx0_eq : idx0 (admOf m 0) = m ((core.tc : Thread nD τ).loc main_arg0) :=
  (V3_of m core main_arg0 (by decide)).trans ((V2_of m core main_arg0 (by decide)).trans (V1_of m core main_arg0 (by decide)))

/-- THE FRAME, every index below 999936. -/
theorem frame (hidx : ∀ j : S200.Idx, (m ((core.tc : Thread nD τ).loc main_arg0) j : BitVec 32).toNat < 999936) (g : Dev nD → PrngReg) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun _ h => ⟨fun c => (h.1 c).1, h.2⟩)
    (run m anyP (fun _ _ => constant S1x81920 .f32 0#32) (fun _ => constant S1x1 .f32 0#32) fgt0 ⟨rfl, rfl, rfl⟩ (fun _ _ _ => trivial)
      (fun c => body0_forget (admOf m 0) (Vals.at (V3 m)) _ _ (fun j => by rw [idx0_eq m]; exact hidx j) c) g)

end Cert.Proof.KernelIdeal

end
-- ==== Proof.PreFinite.lean ====
/- The finiteness precondition, read at one element. -/
module

public import proofs.«01_k».proof.Pre_in_table_finite
public import proofs.«01_k».proof.Proof.Pre

@[expose] public section

noncomputable section

namespace Cert.Proof.Pre

open Idealize.ShloMosaic Idealize.ShloMosaic.StableHlo.Predicate

/-- The predicate's shapes are as it says. -/
instance factsFinite : Cert.Pre_in_table_finite.Facts where
  bcast_S_S200 := by decide
  bcast_S_S1000000x64 := by decide
  bcast_S_S1000000 := by decide

variable {F : FTy → Type} [FloatOps F]

/-- Where the predicate holds, every index is below 999936. -/
theorem finite_range {a0 : IVec Cert.Pre_in_table_finite.S200 32} {a1 a2 : FVec F Cert.Pre_in_table_finite.S1000000x64 .f32} {a3 : FVec F Cert.Pre_in_table_finite.S1000000 .f32}
    (h : (Cert.Pre_in_table_finite.fn (F := F) a0 a1 a2 a3).1 = fun _ => 1#1) (j : Cert.Pre_in_table_finite.S200.Idx) : (a0 j).toNat < 999936 :=
  word_range (congrFun h j)

/-- The bits of infinity denote infinity. -/
theorem ofBits_top : Ideal.ofBits .f32 0x7F800000#32 = (⊤ : EReal) := by
  simp [Ideal.ofBits, Ideal.ieee]

/-- A value whose magnitude is below infinity is real. -/
theorem real_of (x : EReal) (h : Ideal.cmp .olt (max x (-x)) (Ideal.ofBits .f32 0x7F800000#32) = 1#1) : ∃ r : ℝ, x = r := by
  rw [ofBits_top] at h
  have hl : max x (-x) < ⊤ := of_decide_eq_true ((ofBool_eq_one_iff _).1 h)
  induction x with
  | bot => exact absurd hl (by simp)
  | top => exact absurd hl (by simp)
  | coe r => exact ⟨r, rfl⟩

section Real
variable {a0 : IVec Cert.Pre_in_table_finite.S200 32} {a1 a2 : FVec Ideal Cert.Pre_in_table_finite.S1000000x64 .f32} {a3 : FVec Ideal Cert.Pre_in_table_finite.S1000000 .f32}

/-- Where the predicate holds, every entry of the table is real. -/
theorem table_real (h : (Cert.Pre_in_table_finite.fn (F := Ideal) a0 a1 a2 a3).2.1 = fun _ => 1#1) (i : Cert.Pre_in_table_finite.S1000000x64.Idx) : ∃ r : ℝ, a1 i = (r : EReal) :=
  real_of _ (congrFun h i)
/-- Where the predicate holds, every weight is real. -/
theorem weights_real (h : (Cert.Pre_in_table_finite.fn (F := Ideal) a0 a1 a2 a3).2.2.1 = fun _ => 1#1) (i : Cert.Pre_in_table_finite.S1000000x64.Idx) : ∃ r : ℝ, a2 i = (r : EReal) :=
  real_of _ (congrFun h i)
/-- Where the predicate holds, every bias is real. -/
theorem bias_real (h : (Cert.Pre_in_table_finite.fn (F := Ideal) a0 a1 a2 a3).2.2.2 = fun _ => 1#1) (i : Cert.Pre_in_table_finite.S1000000.Idx) : ∃ r : ℝ, a3 i = (r : EReal) :=
  real_of _ (congrFun h i)

end Real

end Cert.Proof.Pre

end
-- ==== Proof.KernelIdeal.Payload.lean ====
/- What one block of the first call computes over the extended reals: its logits, the running maximum and the running sum. -/
module

public import proofs.«01_k».proof.Proof.KernelIdeal.Step
public import Idealize.ShloMosaic.Lib.Pointwise
public import Idealize.ShloMosaic.PureOps.Ideal.Laws

@[expose] public section

set_option maxRecDepth 8192

noncomputable section

namespace Cert.Proof.KernelIdeal

open Cert.KernelIdeal Cert.KernelIdeal.Gen
open Idealize.ShloMosaic

/-- The logit of a word of the vocabulary from the mean, the weights and the bias; `⊥` past the vocabulary's end. -/
def lgc (M : S64x1.Idx → EReal) (W : S64x1000000.Idx → EReal) (B : S1x1000000.Idx → EReal) (n : ℕ) : EReal :=
  if h : n < 1000000 then (∑ k : Fin 64, M (ix2 k 0) * W (ix2 k ⟨n, h⟩)) + B (ix2 0 ⟨n, h⟩) else ⊥

/-- The staged blocks hold the columns of block `n` of the weights and of the bias, as far as the vocabulary goes. -/
def Holds (W : S64x1000000.Idx → EReal) (B : S1x1000000.Idx → EReal) (n : ℕ) (X4 : S64x81920.Idx → EReal) (X5 : S1x81920.Idx → EReal) : Prop :=
  ∀ (j : Fin 81920) (h : 81920 * n + j.val < 1000000),
    (∀ k : Fin 64, X4 (ix2 k j) = W (ix2 k ⟨81920 * n + j.val, h⟩)) ∧ X5 (ix2 0 j) = B (ix2 0 ⟨81920 * n + j.val, h⟩)

/-- A column of a point's logits. -/
theorem pay4_at (M : S64x1.Idx → EReal) (X4 : S64x81920.Idx → EReal) (X5 : S1x81920.Idx → EReal) (j : Fin 81920) :
    k0_pay4 (F := Ideal) M X4 X5 (ix2 0 j) = (∑ k : Fin 64, M (ix2 k 0) * X4 (ix2 k j)) + X5 (ix2 0 j) := by
  unfold k0_pay4
  pointwise

/-- The bit that says a column is in the vocabulary. -/
theorem inVocab (i : grid0.Coords) (j : Fin 81920) :
    cmpi .slt (k0_pay5 i) (broadcast S1x81920 1000000#32) (ix2 0 j) = if 81920 * (i 0).val + j.val < 1000000 then 1#1 else 0#1 := by
  have hi : (i 0).val < 13 := (i 0).isLt
  have hj : j.val < 81920 := j.isLt
  unfold k0_pay5
  pointwise
  rw [show IntOp.addi (Scalar.muli (81920#32) (BitVec.ofNat 32 (i 0).val)) (BitVec.ofNat 32 j.val) = BitVec.ofNat 32 (81920 * (i 0).val + j.val) from by
    apply BitVec.eq_of_toNat_eq
    simp [IntOp.addi, Scalar.muli, IntOp.muli, BitVec.toNat_add, BitVec.toNat_mul, Nat.add_mod, Nat.mul_mod]]
  have hs : (BitVec.ofNat 32 (81920 * (i 0).val + j.val)).toInt = 81920 * (i 0).val + j.val := by
    rw [BitVec.toInt_eq_toNat_cond, BitVec.toNat_ofNat, Nat.mod_eq_of_lt (by omega)]
    rw [if_pos (by omega)]; push_cast; rfl
  by_cases h : 81920 * (i 0).val + j.val < 1000000
  · rw [if_pos h]
    unfold IntOp.cmpi
    show BitVec.ofBool ((BitVec.ofNat 32 (81920 * (i 0).val + j.val)).slt 1000000#32) = _
    rw [show (BitVec.ofNat 32 (81920 * (i 0).val + j.val)).slt 1000000#32 = true from by
      rw [BitVec.slt_iff_toInt_lt, hs]; show _ < (1000000 : Int); omega]
    rfl
  · rw [if_neg h]
    unfold IntOp.cmpi
    show BitVec.ofBool ((BitVec.ofNat 32 (81920 * (i 0).val + j.val)).slt 1000000#32) = _
    rw [show (BitVec.ofNat 32 (81920 * (i 0).val + j.val)).slt 1000000#32 = false from by
      rw [Bool.eq_false_iff, Ne, BitVec.slt_iff_toInt_lt, hs]; show ¬ _ < (1000000 : Int); omega]
    rfl

/-- The word of negative infinity. -/
theorem ofBits_ninf : Ideal.ofBits .f32 0xFF800000#32 = ⊥ := by
  simp [Ideal.ofBits, Ideal.ieee]

/-- A logit with the columns past the vocabulary masked. -/
theorem pay6_at (i : grid0.Coords) (M : S64x1.Idx → EReal) (X4 : S64x81920.Idx → EReal) (X5 : S1x81920.Idx → EReal)
    {W : S64x1000000.Idx → EReal} {B : S1x1000000.Idx → EReal} (hX : Holds W B (i 0).val X4 X5) (j : Fin 81920) :
    k0_pay6 (F := Ideal) i M X4 X5 (ix2 0 j) = lgc M W B (81920 * (i 0).val + j.val) := by
  unfold k0_pay6
  rw [ValueIdx.select_apply, inVocab, pay4_at]
  unfold lgc
  by_cases h : 81920 * (i 0).val + j.val < 1000000
  · rw [if_pos h, dif_pos h, ValueIdx.select_one, (hX j h).2]
    congr 1
    exact Finset.sum_congr rfl fun k _ => by rw [(hX j h).1 k]
  · rw [if_neg h, dif_neg h, ValueIdx.select_zero]
    exact ofBits_ninf

/-- The running maximum after a block. -/
theorem newMax_eq (i : grid0.Coords) (M : S64x1.Idx → EReal) (X4 : S64x81920.Idx → EReal) (X5 : S1x81920.Idx → EReal)
    {W : S64x1000000.Idx → EReal} {B : S1x1000000.Idx → EReal} (hX : Holds W B (i 0).val X4 X5) (mx : EReal) :
    newMax (F := Ideal) i M X4 X5 mx
      = max mx (Finset.univ.sup fun j : Fin 81920 => lgc M W B (81920 * (i 0).val + j.val)) := by
  unfold newMax k0_pay7
  pointwise
  rw [ofBits_ninf]
  refine congrArg (max mx) ?_
  simp only [pay6_at i M X4 X5 hX]
  apply le_antisymm
  · rw [Finset.fold_max_le]
    exact ⟨bot_le, fun x _ => Finset.le_sup (f := fun j : Fin 81920 => lgc M W B (81920 * (i 0).val + j.val)) (Finset.mem_univ x.2)⟩
  · refine Finset.sup_le fun j _ => ?_
    rw [Finset.le_fold_max]
    exact Or.inr ⟨(0, j), Finset.mem_univ _, le_rfl⟩

/-- The running sum after a block. -/
theorem newSum_eq (i : grid0.Coords) (M : S64x1.Idx → EReal) (X4 : S64x81920.Idx → EReal) (X5 : S1x81920.Idx → EReal)
    {W : S64x1000000.Idx → EReal} {B : S1x1000000.Idx → EReal} (hX : Holds W B (i 0).val X4 X5) (mx sm : EReal) :
    newSum (F := Ideal) i M X4 X5 mx sm
      = sm * Ideal.exp (mx - newMax (F := Ideal) i M X4 X5 mx)
        + ∑ j : Fin 81920, Ideal.exp (lgc M W B (81920 * (i 0).val + j.val) - newMax (F := Ideal) i M X4 X5 mx) := by
  unfold newSum k0_pay1 k0_pay8 k0_pay9
  rw [show k0_pay7 (F := Ideal) i M X4 X5 mx = newMax (F := Ideal) i M X4 X5 mx from rfl]
  have hv := fun j => inVocab i j
  have hv : ∀ j : Fin 81920, IntOp.cmpi .slt (k0_pay5 i (ix2 0 j)) 1000000#32 = if 81920 * (i 0).val + j.val < 1000000 then 1#1 else 0#1 := hv
  pointwise
  rw [Fin.sum_univ_one]
  refine congrArg (sm * Ideal.exp (mx - newMax (F := Ideal) i M X4 X5 mx) + ·) ?_
  refine Finset.sum_congr rfl fun j _ => ?_
  rw [pay6_at i M X4 X5 hX, hv]
  by_cases h : 81920 * (i 0).val + j.val < 1000000
  · rw [if_pos h, ValueIdx.select_one]
  · rw [if_neg h, ValueIdx.select_zero]
    unfold lgc
    rw [dif_neg h, EReal.bot_sub]
    rfl

/-- The word the last point writes. -/
theorem pay2_eq (mx sm : EReal) : k0_pay2 (F := Ideal) mx sm = mx + Ideal.log sm := by
  unfold k0_pay2
  pointwise
  rfl

/-- The mean of the masked columns. -/
theorem pay3_at (G : S64x25600.Idx → EReal) (X3 : S1x25600.Idx → EReal) (k : Fin 64) :
    k0_pay3 (F := Ideal) G X3 (ix2 k 0) = (∑ r : Fin 25600, G (ix2 k r) * X3 (ix2 0 r)) * ((200⁻¹ : ℝ) : EReal) := by
  unfold k0_pay3
  pointwise
  rfl

end Cert.Proof.KernelIdeal

end
-- ==== Proof.KernelIdeal.Blocks.lean ====
/- The blocks of the weights and of the bias that the first call is handed, column by column of the arrays they are cut from. -/
module

public import proofs.«01_k».proof.Proof.KernelIdeal.Payload
public import Idealize.ShloMosaic.Lib.Pipeline.ValueKit

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.ShloMosaic.Pipeline (Dat Cfg Window)

variable (adm : (pcfg0 (F := Ideal)).Adm)
variable (V : (c : Dev nD) → (b : Ref sig .tc) → Buf (Elt Ideal) ((c : Thread nD τ).loc b))

/-- A point's coordinate is its number. -/
theorem coords0 : ∀ t : Fin grid0.N, (grid0.coords t 0).val = t.val := by decide +kernel

/-- The transposed weights and the bias row at the entry. -/
abbrev wts0 (c : Dev nD) : S64x1000000.Idx → EReal := V c main_v10
/-- The bias row at the entry. -/
abbrev bias0 (c : Dev nD) : S1x1000000.Idx → EReal := V c main_v11

/-- Point `t` reads block `t` of the weights. -/
theorem index0_1 (t : Fin grid0.N) : (win0 adm 1).index t = ![0, t.val] := by
  rcases fin_N0 t with rfl | rfl | rfl | rfl | rfl | rfl | rfl | rfl | rfl | rfl | rfl | rfl | rfl <;> rfl
/-- Point `t` reads block `t` of the bias. -/
theorem index0_2 (t : Fin grid0.N) : (win0 adm 2).index t = ![0, t.val] := by
  rcases fin_N0 t with rfl | rfl | rfl | rfl | rfl | rfl | rfl | rfl | rfl | rfl | rfl | rfl | rfl <;> rfl

/-- How much of a block lies in the array. -/
theorem extent_of (n k d : ℕ) (h : n * k < d) : (Pipeline.Clip.of n k d).extent k = min k (d - n * k) := by
  unfold Pipeline.Clip.of
  have e : (n + 1) * k = n * k + k := Nat.succ_mul n k
  split
  · show k = _; omega
  · show d - n * k = _; omega

/-- How many columns of the weights a point moves. -/
theorem xsize0_1 (t : Fin grid0.N) : (win0 adm 1).xsize (grid0.coords t) (0 : Fin 2) = 64 ∧
    (win0 adm 1).xsize (grid0.coords t) (1 : Fin 2) = min 81920 (1000000 - 81920 * t.val) := by
  have ht : t.val < 13 := t.isLt
  constructor
  · show (Pipeline.Clip.of ((win0 adm 1).index t (0 : Fin 2)) 64 64).extent 64 = _
    rw [index0_1]; rfl
  · show (Pipeline.Clip.of ((win0 adm 1).index t (1 : Fin 2)) 81920 1000000).extent 81920 = _
    rw [index0_1]
    show (Pipeline.Clip.of t.val 81920 1000000).extent 81920 = _
    rw [extent_of _ _ _ (by omega), Nat.mul_comm]
/-- How many columns of the bias a point moves. -/
theorem xsize0_2 (t : Fin grid0.N) : (win0 adm 2).xsize (grid0.coords t) (0 : Fin 2) = 1 ∧
    (win0 adm 2).xsize (grid0.coords t) (1 : Fin 2) = min 81920 (1000000 - 81920 * t.val) := by
  have ht : t.val < 13 := t.isLt
  constructor
  · show (Pipeline.Clip.of ((win0 adm 2).index t (0 : Fin 2)) 1 1).extent 1 = _
    rw [index0_2]; rfl
  · show (Pipeline.Clip.of ((win0 adm 2).index t (1 : Fin 2)) 81920 1000000).extent 81920 = _
    rw [index0_2]
    show (Pipeline.Clip.of t.val 81920 1000000).extent 81920 = _
    rw [extent_of _ _ _ (by omega), Nat.mul_comm]

/-- A column of the weights inside the vocabulary is moved. -/
theorem moved0_1 (t : Fin grid0.N) (k : Fin 64) (j : Fin 81920) (h : 81920 * t.val + j.val < 1000000) :
    (win0 adm 1).moved (grid0.coords t) (ix2 k j) = true :=
  ((win0 adm 1).moved_iff _ _).mpr fun a => by
    match a with
    | ⟨0, _⟩ => exact lt_of_lt_of_eq k.isLt (xsize0_1 adm t).1.symm
    | ⟨1, _⟩ => exact lt_of_lt_of_eq (show j.val < min 81920 (1000000 - 81920 * t.val) by have := j.isLt; omega) (xsize0_1 adm t).2.symm
/-- A column of the bias inside the vocabulary is moved. -/
theorem moved0_2 (t : Fin grid0.N) (j : Fin 81920) (h : 81920 * t.val + j.val < 1000000) :
    (win0 adm 2).moved (grid0.coords t) (ix2 (0 : Fin 1) j) = true :=
  ((win0 adm 2).moved_iff _ _).mpr fun a => by
    match a with
    | ⟨0, _⟩ => exact lt_of_lt_of_eq (show 0 < 1 by omega) (xsize0_2 adm t).1.symm
    | ⟨1, _⟩ => exact lt_of_lt_of_eq (show j.val < min 81920 (1000000 - 81920 * t.val) by have := j.isLt; omega) (xsize0_2 adm t).2.symm

/-- Point `t` writes block `t` of the logits. -/
theorem index0_3 (t : Fin grid0.N) : (win0 adm 3).index t = ![0, t.val] := by
  rcases fin_N0 t with rfl | rfl | rfl | rfl | rfl | rfl | rfl | rfl | rfl | rfl | rfl | rfl | rfl <;> rfl
/-- How many columns of the logits a point moves. -/
theorem xsize0_3 (t : Fin grid0.N) : (win0 adm 3).xsize (grid0.coords t) (0 : Fin 2) = 1 ∧
    (win0 adm 3).xsize (grid0.coords t) (1 : Fin 2) = min 81920 (1000000 - 81920 * t.val) := by
  have ht : t.val < 13 := t.isLt
  constructor
  · show (Pipeline.Clip.of ((win0 adm 3).index t (0 : Fin 2)) 1 1).extent 1 = _
    rw [index0_3]; rfl
  · show (Pipeline.Clip.of ((win0 adm 3).index t (1 : Fin 2)) 81920 1000000).extent 81920 = _
    rw [index0_3]
    show (Pipeline.Clip.of t.val 81920 1000000).extent 81920 = _
    rw [extent_of _ _ _ (by omega), Nat.mul_comm]

/-- Where the columns of a block lie in the arrays. -/
theorem emb0_1 (t : Fin grid0.N) (y : ((win0 adm 1).xblock (grid0.coords t)).Idx) :
    ((((cfg0 adm).win 1).blk t).view.emb y (0 : Fin 2)).val = (y (0 : Fin 2)).val ∧
    ((((cfg0 adm).win 1).blk t).view.emb y (1 : Fin 2)).val = 81920 * t.val + (y (1 : Fin 2)).val := by
  constructor
  · blk_simp
    rw [show ((cfg0 adm).win 1).index t (0 : Fin 2) = 0 from congrFun (index0_1 adm t) 0]; omega
  · blk_simp
    rw [show ((cfg0 adm).win 1).index t (1 : Fin 2) = t.val from congrFun (index0_1 adm t) 1]; omega
/-- Where the columns of a block lie in the bias. -/
theorem emb0_2 (t : Fin grid0.N) (y : ((win0 adm 2).xblock (grid0.coords t)).Idx) :
    ((((cfg0 adm).win 2).blk t).view.emb y (0 : Fin 2)).val = (y (0 : Fin 2)).val ∧
    ((((cfg0 adm).win 2).blk t).view.emb y (1 : Fin 2)).val = 81920 * t.val + (y (1 : Fin 2)).val := by
  constructor
  · blk_simp
    rw [show ((cfg0 adm).win 2).index t (0 : Fin 2) = 0 from congrFun (index0_2 adm t) 0]; try omega
  · blk_simp
    rw [show ((cfg0 adm).win 2).index t (1 : Fin 2) = t.val from congrFun (index0_2 adm t) 1]; omega

/-- Where the columns of a block lie in the logits. -/
theorem emb0_3 (t : Fin grid0.N) (y : ((win0 adm 3).xblock (grid0.coords t)).Idx) :
    ((((cfg0 adm).win 3).blk t).view.emb y (1 : Fin 2)).val = 81920 * t.val + (y (1 : Fin 2)).val := by
  blk_simp
  rw [show ((cfg0 adm).win 3).index t (1 : Fin 2) = t.val from congrFun (index0_3 adm t) 1]; omega

/-- The staged weights hold the block's columns. -/
theorem fill0_1 (c : Dev nD) (t : Fin grid0.N) (d : S64x81920.Idx → EReal) (k : Fin 64) (j : Fin 81920) (h : 81920 * t.val + j.val < 1000000) :
    (win0 adm 1).fill (grid0.coords t) d (blk0 adm V c 1 t) (ix2 k j) = wts0 V c (ix2 k ⟨81920 * t.val + j.val, h⟩) := by
  unfold Window.fill
  rw [dif_pos (moved0_1 adm t k j h)]
  show wts0 V c _ = _
  refine congrArg (wts0 V c) (funext fun (a : Fin 2) => Fin.ext ?_)
  rcases (show a = 0 ∨ a = 1 by omega) with rfl | rfl
  · exact (emb0_1 adm t _).1
  · exact (emb0_1 adm t _).2
/-- The staged bias holds the block's columns. -/
theorem fill0_2 (c : Dev nD) (t : Fin grid0.N) (d : S1x81920.Idx → EReal) (j : Fin 81920) (h : 81920 * t.val + j.val < 1000000) :
    (win0 adm 2).fill (grid0.coords t) d (blk0 adm V c 2 t) (ix2 (0 : Fin 1) j) = bias0 V c (ix2 (0 : Fin 1) ⟨81920 * t.val + j.val, h⟩) := by
  unfold Window.fill
  rw [dif_pos (moved0_2 adm t j h)]
  show bias0 V c _ = _
  refine congrArg (bias0 V c) (funext fun (a : Fin 2) => Fin.ext ?_)
  rcases (show a = 0 ∨ a = 1 by omega) with rfl | rfl
  · exact (emb0_2 adm t _).1
  · exact (emb0_2 adm t _).2

/-- Whatever fills the rest of the buffers, they hold the block's columns. -/
theorem holds0 (c : Dev nD) (t : Fin grid0.N) (d1 : S64x81920.Idx → EReal) (d2 : S1x81920.Idx → EReal) :
    Holds (wts0 V c) (bias0 V c) (grid0.coords t 0).val ((win0 adm 1).fill (grid0.coords t) d1 (blk0 adm V c 1 t))
      ((win0 adm 2).fill (grid0.coords t) d2 (blk0 adm V c 2 t)) := by
  rw [coords0]
  exact fun j h => ⟨fun k => fill0_1 adm V c t d1 k j h, fill0_2 adm V c t d2 j h⟩

end Cert.Proof.KernelIdeal

end
-- ==== Proof.KernelIdeal.Exact.lean ====
/- The first call's body at every point, exactly: the mean, the running maximum and sum, a block of logits, and the last word. -/
module

public import proofs.«01_k».proof.Proof.KernelIdeal.Blocks

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

local notation "𝕄" => MT nD τ sig Unit (Elt Ideal) ℕ UU ℕ

/-- The running maximum after the first `n` blocks. -/
def mxr (M : S64x1.Idx → EReal) (W : S64x1000000.Idx → EReal) (B : S1x1000000.Idx → EReal) : ℕ → EReal
  | 0 => ⊥
  | n + 1 => max (mxr M W B n) (Finset.univ.sup fun j : Fin 81920 => lgc M W B (81920 * n + j.val))

/-- The running sum after the first `n` blocks. -/
def smr (M : S64x1.Idx → EReal) (W : S64x1000000.Idx → EReal) (B : S1x1000000.Idx → EReal) : ℕ → EReal
  | 0 => 0
  | n + 1 => smr M W B n * Ideal.exp (mxr M W B n - mxr M W B (n + 1))
      + ∑ j : Fin 81920, Ideal.exp (lgc M W B (81920 * n + j.val) - mxr M W B (n + 1))

variable (adm : (pcfg0 (F := Ideal)).Adm)
variable (V : (c : Dev nD) → (b : Ref sig .tc) → Buf (Elt Ideal) ((c : Thread nD τ).loc b))
variable (hidx : ∀ j, (idx0 adm j).toNat < 999936)

/-- The mean of the gathered columns, as the first point makes it. -/
def mean0 (c : Dev nD) : S64x1.Idx → EReal :=
  k0_pay3 (F := Ideal) (gathered (idx0 adm) hidx (emb0 V c)) (stg0 adm V c 0 (⟨0, by decide⟩ : Fin grid0.N))

/-- Before point `n` (after the first): the mean, and the running words over the blocks before. -/
def exactP (c : Dev nD) (n : ℕ) (M : S64x1.Idx → EReal) (S : S2.Idx → EReal) : Prop :=
  n ≠ 0 → M = mean0 adm V hidx c
    ∧ S = st (F := Ideal) (mxr (mean0 adm V hidx c) (wts0 V c) (bias0 V c) n) (smr (mean0 adm V hidx c) (wts0 V c) (bias0 V c) n)

/-- A block of logits, and the logarithm of the sum of their exponentials. -/
def exact3 (c : Dev nD) (n : ℕ) : S1x81920.Idx → EReal :=
  fun j => lgc (mean0 adm V hidx c) (wts0 V c) (bias0 V c) (81920 * n + (j 1).val)
/-- The logarithm of the sum of exponentials over all blocks. -/
def exact4 (c : Dev nD) : S1x1.Idx → EReal :=
  fun _ => mxr (mean0 adm V hidx c) (wts0 V c) (bias0 V c) 13 + Ideal.log (smr (mean0 adm V hidx c) (wts0 V c) (bias0 V c) 13)

/-- The first running word. -/
theorem st_at0 (a b : EReal) : st (F := Ideal) a b (ValueIdx.ix1 0) = a := rfl
/-- The second running word. -/
theorem st_at1 (a b : EReal) : st (F := Ideal) a b (ValueIdx.ix1 1) = b := rfl

/-- The mean column is the first point's, at every point. -/
theorem nextM_exact (c : Dev nD) (t : Fin grid0.N) (M : S64x1.Idx → EReal) (S : S2.Idx → EReal) (hP : exactP adm V hidx c t.val M S) :
    nextM (F := Ideal) (grid0.coords t) (idx0 adm) hidx (emb0 V c) (stg0 adm V c 0 t) M = mean0 adm V hidx c := by
  unfold nextM
  by_cases h : k0_cond1 (grid0.coords t) = 1#1
  · rw [if_pos h]
    obtain rfl : t = (⟨0, by decide⟩ : Fin grid0.N) := Fin.ext ((cond1_iff t).mp h)
    rfl
  · rw [if_neg h]
    exact (hP (fun h0 => h ((cond1_iff t).mpr h0))).1

/-- The running words a point starts from. -/
theorem fromS_exact (c : Dev nD) (t : Fin grid0.N) (M : S64x1.Idx → EReal) (S : S2.Idx → EReal) (hP : exactP adm V hidx c t.val M S) :
    fromS (F := Ideal) (grid0.coords t) S
      = st (F := Ideal) (mxr (mean0 adm V hidx c) (wts0 V c) (bias0 V c) t.val) (smr (mean0 adm V hidx c) (wts0 V c) (bias0 V c) t.val) := by
  unfold fromS
  by_cases h : k0_cond1 (grid0.coords t) = 1#1
  · rw [if_pos h, (cond1_iff t).mp h]
    exact congrArg₂ (st (F := Ideal)) ofBits_ninf Ideal.ofBits_zero_f32
  · rw [if_neg h]
    exact (hP (fun h0 => h ((cond1_iff t).mpr h0))).2

/-- The running words a point leaves. -/
theorem nextS_exact (c : Dev nD) (t : Fin grid0.N) (d1 : S64x81920.Idx → EReal) (d2 : S1x81920.Idx → EReal) (n : ℕ) (hn : n = t.val) :
    nextS (F := Ideal) (grid0.coords t) (mean0 adm V hidx c) ((win0 adm 1).fill (grid0.coords t) d1 (blk0 adm V c 1 t))
        ((win0 adm 2).fill (grid0.coords t) d2 (blk0 adm V c 2 t))
        (st (F := Ideal) (mxr (mean0 adm V hidx c) (wts0 V c) (bias0 V c) n) (smr (mean0 adm V hidx c) (wts0 V c) (bias0 V c) n))
      = st (F := Ideal) (mxr (mean0 adm V hidx c) (wts0 V c) (bias0 V c) (n + 1)) (smr (mean0 adm V hidx c) (wts0 V c) (bias0 V c) (n + 1)) := by
  subst hn
  unfold nextS
  rw [st_at0, st_at1]
  have hX := holds0 adm V c t d1 d2
  have hm := newMax_eq (grid0.coords t) (mean0 adm V hidx c) _ _ hX (mxr (mean0 adm V hidx c) (wts0 V c) (bias0 V c) t.val)
  have hs := newSum_eq (grid0.coords t) (mean0 adm V hidx c) _ _ hX (mxr (mean0 adm V hidx c) (wts0 V c) (bias0 V c) t.val)
    (smr (mean0 adm V hidx c) (wts0 V c) (bias0 V c) t.val)
  rw [hm] at hs
  rw [coords0] at hm hs
  exact congrArg₂ (st (F := Ideal)) hm hs

/-- The block of logits a point leaves, past the vocabulary's end apart. -/
theorem pay4_cut (c : Dev nD) (t : Fin grid0.N) (d1 : S64x81920.Idx → EReal) (d2 : S1x81920.Idx → EReal) :
    (win0 adm 3).cut (grid0.coords t) (k0_pay4 (F := Ideal) (mean0 adm V hidx c) ((win0 adm 1).fill (grid0.coords t) d1 (blk0 adm V c 1 t))
        ((win0 adm 2).fill (grid0.coords t) d2 (blk0 adm V c 2 t)))
      = (win0 adm 3).cut (grid0.coords t) (exact3 adm V hidx c t.val) := by
  funext (y : ((win0 adm 3).xblock (grid0.coords t)).Idx)
  have hy : (y (1 : Fin 2)).val < min 81920 (1000000 - 81920 * t.val) := lt_of_lt_of_eq (y (1 : Fin 2)).isLt (xsize0_3 adm t).2
  have hy0 : (y (0 : Fin 2)).val < 1 := lt_of_lt_of_eq (y (0 : Fin 2)).isLt (xsize0_3 adm t).1
  have h : 81920 * t.val + (y (1 : Fin 2)).val < 1000000 := by omega
  have e : (win0 adm 3).xinj (grid0.coords t) y = ix2 (0 : Fin 1) (⟨(y (1 : Fin 2)).val, by omega⟩ : Fin 81920) := by
    funext (a : Fin 2)
    refine Fin.ext ?_
    rcases (show a = 0 ∨ a = 1 by omega) with rfl | rfl
    · show (y (0 : Fin 2)).val = 0; omega
    · rfl
  show k0_pay4 (F := Ideal) _ _ _ ((win0 adm 3).xinj (grid0.coords t) y) = exact3 adm V hidx c t.val ((win0 adm 3).xinj (grid0.coords t) y)
  rw [e, pay4_at]
  show _ = lgc _ _ _ (81920 * t.val + (y (1 : Fin 2)).val)
  unfold lgc
  rw [dif_pos h]
  have hX := holds0 adm V c t d1 d2
  rw [coords0] at hX
  have hXj := hX ⟨(y (1 : Fin 2)).val, by omega⟩ h
  rw [hXj.2, Finset.sum_congr rfl fun k _ => congrArg (mean0 adm V hidx c (ix2 k 0) * ·) (hXj.1 k)]

/-- A buffer of logits with its block's part put in. -/
def fill3 (t : Fin grid0.N) (X Y : S1x81920.Idx → EReal) : S1x81920.Idx → Elt Ideal .f32 :=
  (win0 adm 3).fill (α := EReal) (grid0.coords t) X ((win0 adm 3).cut (α := EReal) (grid0.coords t) Y)

/-- What a point writes out is its block of logits. -/
theorem fill3_eq (c : Dev nD) (t : Fin grid0.N) (d1 : S64x81920.Idx → EReal) (d2 : S1x81920.Idx → EReal) :
    fill3 adm t (k0_pay4 (F := Ideal) (mean0 adm V hidx c) ((win0 adm 1).fill (grid0.coords t) d1 (blk0 adm V c 1 t))
        ((win0 adm 2).fill (grid0.coords t) d2 (blk0 adm V c 2 t))) (exact3 adm V hidx c t.val)
      = k0_pay4 (F := Ideal) (mean0 adm V hidx c) ((win0 adm 1).fill (grid0.coords t) d1 (blk0 adm V c 1 t))
        ((win0 adm 2).fill (grid0.coords t) d2 (blk0 adm V c 2 t)) := by
  unfold fill3
  rw [← pay4_cut adm V hidx c t d1 d2]
  exact Window.fill_cut (win0 adm 3) (grid0.coords t) _

/-- The word is written at the last point only. -/
theorem idle0_4 (t : Fin grid0.N) : idle0 4 (grid0.coords t) = !decide (t.val = 12) := by
  rcases fin_N0 t with rfl | rfl | rfl | rfl | rfl | rfl | rfl | rfl | rfl | rfl | rfl | rfl | rfl <;> rfl
/-- The word is sent out at the last point only. -/
theorem flush0_4 (t : Fin grid0.N) : (win0 adm 4).flush t = decide (t.val = 12) := by
  have h : ∀ t : Fin grid0.N, (win0 adm 4).index t = ![0, 0] := fun _ => rfl
  have ht : t.val < 13 := t.isLt
  unfold Window.flush
  rw [show (win0 adm 4).isOut = true from rfl]
  rw [decide_eq_false (p := ∃ (h : t.val + 1 < grid0.N), (win0 adm 4).index ⟨t.val + 1, h⟩ ≠ (win0 adm 4).index t)
    (fun ⟨h', hne⟩ => hne ((h _).trans (h t).symm))]
  simp only [Bool.or_false, Bool.true_and]
  exact decide_eq_decide.mpr ⟨fun e => by have : grid0.N = 13 := rfl; omega, fun e => by have : grid0.N = 13 := rfl; omega⟩

/-- The first call's body at every point, with exact values. -/
theorem body0_exact (c : Dev nD) :
    BodyObligationLoose (dat0 adm V (exactP adm V hidx) (exact3 adm V hidx) (exact4 adm V hidx) c) (defs₀ (F := Ideal)) 𝒱₀ () Set.univ (fun _ => false) := fun t => by
  rw [bigSep_W0, bigSep_W0]
  simp only
  rw [show (dat0 adm V (exactP adm V hidx) (exact3 adm V hidx) (exact4 adm V hidx) c).Φ t.castSucc = inv0 adm V (exactP adm V hidx c) c t.val from rfl,
    show (dat0 adm V (exactP adm V hidx) (exact3 adm V hidx) (exact4 adm V hidx) c).Φ t.succ = inv0 adm V (exactP adm V hidx c) c (t.val + 1) from rfl]
  unfold Dat.owesAt Pipeline.owesWithin
  iintro ⟨HΦ, ⟨%W, -, Ho⟩, ⟨%d0, H0⟩, ⟨%d1, H1⟩, ⟨%d2, H2⟩, ⟨%d3, H3⟩, ⟨%d4, H4⟩⟩
  rw [before0_0 adm V (exactP adm V hidx) (exact3 adm V hidx) (exact4 adm V hidx) c t d0, before0_1 adm V (exactP adm V hidx) (exact3 adm V hidx) (exact4 adm V hidx) c t d1,
    before0_2 adm V (exactP adm V hidx) (exact3 adm V hidx) (exact4 adm V hidx) c t d2]
  iapply (any_run adm V (exactP adm V hidx c) c hidx t _ _ _ _ _ _ _ _ _ _ (stg0 adm V c 0 t)
    ((win0 adm 1).fill (grid0.coords t) d1 (blk0 adm V c 1 t)) ((win0 adm 2).fill (grid0.coords t) d2 (blk0 adm V c 2 t)) _ _ _)
  isplitl [HΦ Ho H0 H1 H2 H3 H4]
  · isplitl [HΦ]; · iexact HΦ
    isplitl [Ho]; · iexists W; iexact Ho
    isplitl [H0]; · iexact H0
    isplitl [H1]; · iexact H1
    isplitl [H2]; · iexact H2
    isplitl [H3]; · iexact H3
    iexact H4
  iintro %M %S ⟨%hP, HL, ⟨%W', Ho⟩, H0, H1, H2, H3, H4⟩
  rw [nextM_exact adm V hidx c t M S hP, fromS_exact adm V hidx c t M S hP, nextS_exact adm V hidx c t d1 d2 t.val rfl]
  isplitl [HL]
  · iapply (left_inv adm V (exactP adm V hidx c) c (t.val + 1) _ _ (fun _ => ⟨rfl, rfl⟩)); iexact HL
  isplitl [Ho]
  · iexists W'; isplitr; · ipureintro; exact fun _ _ => Or.inl trivial
    iexact Ho
  isplitl [H0]; · iexact H0
  isplitl [H1]
  · iexists d1
    change _ ⊢ owns (c : Thread nD τ) _ fullShare ((win0 adm 1).fill (grid0.coords t) d1 ((win0 adm 1).cut (grid0.coords t) (stg0 adm V c 1 t)))
    rw [show (win0 adm 1).cut (grid0.coords t) (stg0 adm V c 1 t) = blk0 adm V c 1 t from (win0 adm 1).cut_fill _ _ _]
    try iexact H1
  isplitl [H2]
  · iexists d2
    change _ ⊢ owns (c : Thread nD τ) _ fullShare ((win0 adm 2).fill (grid0.coords t) d2 ((win0 adm 2).cut (grid0.coords t) (stg0 adm V c 2 t)))
    rw [show (win0 adm 2).cut (grid0.coords t) (stg0 adm V c 2 t) = blk0 adm V c 2 t from (win0 adm 2).cut_fill _ _ _]
    try iexact H2
  isplitl [H3]
  · iexists (k0_pay4 (F := Ideal) (mean0 adm V hidx c) ((win0 adm 1).fill (grid0.coords t) d1 (blk0 adm V c 1 t))
        ((win0 adm 2).fill (grid0.coords t) d2 (blk0 adm V c 2 t)))
    change _ ⊢ owns (c : Thread nD τ) _ fullShare (fill3 adm t _ (exact3 adm V hidx c t.val))
    rw [fill3_eq]
    try iexact H3
  by_cases h : t.val = 12
  · have hi : idle0 4 (grid0.coords t) = false := by rw [idle0_4, h]; rfl
    have hi' : idle0 4 ((pcfg0.gridAt ↑adm).coords t) = false := hi
    rw [hi']
    rw [show nextL (F := Ideal) (grid0.coords t) = fun S _ => fun _ => k0_pay2 (F := Ideal) (S (ValueIdx.ix1 0)) (S (ValueIdx.ix1 1)) from by
      unfold nextL; funext S X; rw [if_pos ((cond2_iff t).mpr h)]]
    simp only [st_at0, st_at1, pay2_eq, h]
    iexact H4
  · have hi : idle0 4 (grid0.coords t) = true := by rw [idle0_4]; simp [h]
    have hi' : idle0 4 ((pcfg0.gridAt ↑adm).coords t) = true := hi
    have hf : (win0 adm 4).flush t = false := by rw [flush0_4]; simp [h]
    have hf' : (pcfg0.win adm 4).flush t = false := hf
    rw [hi', hf']
    rw [show nextL (F := Ideal) (grid0.coords t) = fun _ X => X from by
      unfold nextL; funext S X; rw [if_neg (fun h' => h ((cond2_iff t).mp h'))]]
    iexists d4
    iexact H4

end Cert.Proof.KernelIdeal

end
-- ==== Proof.KernelIdeal.Arrays.lean ====
/- What the arrays hold after the two calls: the row of logits, the logarithm of the sum of exponentials, and their difference. -/
module

public import proofs.«01_k».proof.Proof.KernelIdeal.Exact
public import proofs.«01_k».proof.Proof.KernelIdeal.Records
public import Idealize.ShloMosaic.Lib.Pipeline.Covers

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.ShloMosaic.Pipeline (Dat Cfg Window)

section First
variable (adm : (pcfg0 (F := Ideal)).Adm)
variable (V : (c : Dev nD) → (b : Ref sig .tc) → Buf (Elt Ideal) ((c : Thread nD τ).loc b))
variable (hidx : ∀ j, (idx0 adm j).toNat < 999936)

/-- The first call's proof data, exactly. -/
abbrev datE (c : Dev nD) := dat0 adm V (exactP adm V hidx) (exact3 adm V hidx) (exact4 adm V hidx) c

/-- The row of logits. -/
def logits (c : Dev nD) : S1x1000000.Idx → EReal := fun i => lgc (mean0 adm V hidx c) (wts0 V c) (bias0 V c) (i 1).val

/-- The blocks of the row of logits reach every column. -/
theorem covers0_3 : (win0 adm 3).Covers := by
  refine Window.covers_of_index_surj (win0 adm 3) rfl (fun (a : Fin 2) => ?_) fun β => ?_
  · rcases (show a = 0 ∨ a = 1 by omega) with rfl | rfl
    · show 0 < 1; omega
    · show 0 < 81920; omega
  · have h0 : (β (0 : Fin 2)).val < 1 := lt_of_lt_of_eq (β (0 : Fin 2)).isLt (show (1 + 1 - 1) / 1 = 1 by norm_num)
    have h1 : (β (1 : Fin 2)).val < 13 := lt_of_lt_of_eq (β (1 : Fin 2)).isLt (show (1000000 + 81920 - 1) / 81920 = 13 by norm_num)
    refine ⟨(⟨(β (1 : Fin 2)).val, h1⟩ : Fin grid0.N), fun (a : Fin 2) => ?_⟩
    rw [index0_3]
    rcases (show a = 0 ∨ a = 1 by omega) with rfl | rfl
    · show 0 = (β (0 : Fin 2)).val; omega
    · rfl

/-- After the first call, its row is the row of logits. -/
theorem arr0_3 (c : Dev nD) : (datE adm V hidx c).arrAt (3 : Fin 5) grid0.N = logits adm V hidx c := by
  refine (datE adm V hidx c).arrAt_eq_of_covers (3 : Fin 5) (logits adm V hidx c) (covers0_3 adm) fun t _ y => ?_
  show lgc _ _ _ (81920 * t.val + (y (1 : Fin 2)).val) = lgc _ _ _ ((((cfg0 adm).win 3).blk t).view.emb y (1 : Fin 2)).val
  rw [emb0_3 adm t y]

/-- The last point's block of the word is the whole word. -/
theorem whole0_4 : (win0 adm 4).WholeAt (⟨12, by decide⟩ : Fin grid0.N) := by
  refine ⟨flush0_4 adm _, fun t h => ?_, fun (a : Fin 2) => ?_⟩
  · rw [flush0_4] at h
    exact Fin.ext (of_decide_eq_true h)
  · rcases (show a = 0 ∨ a = 1 by omega) with rfl | rfl <;> exact ⟨rfl, rfl⟩

/-- After the first call, its word is the logarithm of the sum of exponentials. -/
theorem arr0_4 (c : Dev nD) : (datE adm V hidx c).arrAt (4 : Fin 5) grid0.N = exact4 adm V hidx c :=
  (datE adm V hidx c).arrAt_eq_of_after_last (4 : Fin 5) (⟨12, by decide⟩ : Fin grid0.N) (whole0_4 adm) (exact4 adm V hidx c) fun _ => rfl

end First

section Second
variable (V : Vals Ideal)

/-- The second call reads the blocks of the row in order. -/
theorem index1_0 : ∀ t : Fin grid1.N, win1_0.index t = ![0, t.val] := by decide +kernel
/-- The second call writes the blocks of its result in order. -/
theorem index1_2 : ∀ t : Fin grid1.N, win1_2.index t = ![0, t.val] := by decide +kernel

/-- The row and the word the second call is entered with. -/
def rowAt (c : Dev nD) : S1x1000000.Idx → EReal := V c (Proc.devRef .tc main_v12_0)
/-- The word the second call is entered with. -/
def wordAt (c : Dev nD) : S1x1.Idx → EReal := V c (Proc.devRef .tc main_v12_1)

/-- The second call takes the word off every logit. -/
theorem res1_eq (c : Dev nD) (i : S1x1000000.Idx) :
    (res1 V c : S1x1000000.Idx → EReal) i = rowAt V c i - wordAt V c (ix2 0 0) := by
  unfold res1
  refine congrFun ((dat1 (Vals.at V) c).arrAt_eq_of_covers (2 : Fin 3)
    (fun i : S1x1000000.Idx => rowAt V c i - wordAt V c (ix2 0 0))
    (by decide +kernel) fun t _ y => ?_) i
  show k1_pay1 (F := Ideal) (stg1 (Vals.at V) c 0 t) (word1 (Vals.at V) c) (win1_2.xinj (grid1.coords t) y) = _
  have e : stg1 (Vals.at V) c 0 t (win1_2.xinj (grid1.coords t) y) = rowAt V c (((cfg1.win 2).blk t).view.emb y) :=
    Window.fill_xinj win1_0 (grid1.coords t) _ _ y
  unfold k1_pay1
  rw [shapeCast_self]
  have ew : word1 (Vals.at V) c = wordAt V c (ix2 0 0) := by
    unfold word1
    show (win1_1.fill (grid1.coords t1_0) _ (blk1 (Vals.at V) c 1 t1_0) _ : EReal) = _
    unfold Window.fill
    rw [dif_pos (by rfl)]
    refine congrArg (wordAt V c) (funext fun (a : Fin 2) => ?_)
    rcases (show a = 0 ∨ a = 1 by omega) with rfl | rfl <;> exact Subsingleton.elim (α := Fin 1) _ _
  exact congrArg₂ (fun a b : EReal => a - b) e ew

end Second

end Cert.Proof.KernelIdeal

end
-- ==== Proof.KernelIdeal.Host.lean ====
/- What the host hands the first call: the transposed tables, the bias as a row, and the mask that picks one column of each block. -/
module

public import proofs.«01_k».proof.Proof.KernelIdeal.Arrays
public import Idealize.ShloMosaic.Lib.Pointwise

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-- The program's arguments, as launched. -/
abbrev words0 : S200.Idx → BitVec 32 := m ((c : Thread nD τ).loc main_arg0)
/-- The embedding table, as launched. -/
abbrev table0 : S1000000x64.Idx → EReal := m ((c : Thread nD τ).loc main_arg1)
/-- The weights, as launched. -/
abbrev wtab0 : S1000000x64.Idx → EReal := m ((c : Thread nD τ).loc main_arg2)
/-- The bias, as launched. -/
abbrev bvec0 : S1000000.Idx → EReal := m ((c : Thread nD τ).loc main_arg3)

/-- An argument reaches the last host stretch as launched. -/
theorem arg_at (r : Ref sig .tc) (h2 : r ∉ hostOps0_1_W) (h1 : r ∉ hostOps0_W) : V2 m c r = m ((c : Thread nD τ).loc r) :=
  (V2_of m c r h2).trans (V1_of m c r h1)

/-- The embedding table reaches the call transposed. -/
theorem emb_at (k : Fin 64) (n : Fin 1000000) : (V3 m c main_v9 : S64x1000000.Idx → EReal) (ix2 k n) = table0 m c (ix2 n k) := by
  have e : V3 m c main_v9 = transpose S64x1000000 [1, 0] (V2 m c main_arg1 : (⟨S1000000x64, .f32⟩ : BufTy).Contents (Elt Ideal)) transposes_S1000000x64_S64x1000000_1_0 := by
    unfold_abbrev_sides
    after_results
  rw [e, arg_at m c main_arg1 (by decide) (by decide)]
  pointwise

/-- The weights reach the call transposed. -/
theorem wts_at (k : Fin 64) (n : Fin 1000000) : (V3 m c main_v10 : S64x1000000.Idx → EReal) (ix2 k n) = wtab0 m c (ix2 n k) := by
  have e : V3 m c main_v10 = transpose S64x1000000 [1, 0] (V2 m c main_arg2 : (⟨S1000000x64, .f32⟩ : BufTy).Contents (Elt Ideal)) transposes_S1000000x64_S64x1000000_1_0 := by
    unfold_abbrev_sides
    after_results
  rw [e, arg_at m c main_arg2 (by decide) (by decide)]
  pointwise

/-- The bias reaches the call as one row. -/
theorem bias_at (n : Fin 1000000) : (V3 m c main_v11 : S1x1000000.Idx → EReal) (ix2 0 n) = bvec0 m c (ix1 n) := by
  have e : V3 m c main_v11 = shapeCast S1x1000000 (V2 m c main_arg3 : (⟨S1000000, .f32⟩ : BufTy).Contents (Elt Ideal)) shapeCasts_S1000000_S1x1000000 := by
    unfold_abbrev_sides
    after_results
    rfl
  rw [e, arg_at m c main_arg3 (by decide) (by decide)]
  pointwise

/-- The divisor as the host writes it: 128, which is not zero. -/
abbrev divisor : IVec S_ 32 := select (cmpi .eq (constantI S_ 32 128#32) (constantI S_ 32 0#32)) (constantI S_ 32 1#32) (constantI S_ 32 128#32)

/-- The truncated remainders of the column of indices by the divisor. -/
abbrev truncs (X : IVec S200x1 32) : IVec S200x1 32 := Host.remsi X (broadcastInDim S200x1 ![] bcast_S_S200x1 divisor)

/-- The floored remainders of the column of indices: the truncated one, corrected where the signs differ. -/
abbrev floors (X : IVec S200x1 32) : IVec S200x1 32 :=
  select
    (andi
      (cmpi .ne (cmpi .slt (truncs X) (broadcastInDim S200x1 ![] bcast_S_S200x1 (constantI S_ 32 0#32)))
        (broadcastInDim S200x1 ![] bcast_S_S200x1 (cmpi .slt divisor (constantI S_ 32 0#32))))
      (cmpi .ne (truncs X) (broadcastInDim S200x1 ![] bcast_S_S200x1 (constantI S_ 32 0#32))))
    (addi (truncs X) (broadcastInDim S200x1 ![] bcast_S_S200x1 divisor))
    (truncs X)

/-- The remainder stretch leaves the floored remainders of the indices. -/
theorem rem_eq : V2 m c main_v1 = floors (broadcastInDim S200x1 ![0] bcast_S200_S200x1_0 (words0 m c)) := by
  unfold_abbrev_sides
  after_results
  rfl

/-- The host's signed remainder by 128 of a word in range is the unsigned one. -/
theorem remsi128 (w : BitVec 32) (h : w.toNat < 999936) : (IntOp.remsi ArithUnit.host w 128#32).toNat = w.toNat % 128 := by
  have hc : ¬ IntOp.SDivCorner w 128#32 := by
    rintro (h | h)
    · exact absurd h (by decide)
    · exact absurd h.2 (by decide)
  have hm : w.msb = false := by rw [BitVec.msb_eq_decide]; exact decide_eq_false (by omega)
  rw [IntOp.remsi, if_neg hc, BitVec.srem_eq, hm]
  show (w % 128#32).toNat = _
  rw [BitVec.toNat_umod]
  rfl

/-- The floored remainder of a nonnegative word. -/
theorem floors_at (X : IVec S200x1 32) (j : Fin 200) (h : (X (ix2 j 0)).toNat < 999936) : (floors X (ix2 j 0)).toNat = (X (ix2 j 0)).toNat % 128 := by
  have hd : Scalar.select (IntOp.cmpi CmpIPredicate.eq 128#32 0#32) 1#32 128#32 = 128#32 := by decide
  have e0 : IntOp.cmpi CmpIPredicate.slt (128#32 : BitVec 32) 0#32 = 0#1 := by decide
  pointwise
  rw [hd]
  generalize X (ix2 j 0) = w at h ⊢
  have hr := remsi128 w h
  have hlt : IntOp.cmpi CmpIPredicate.slt (IntOp.remsi ArithUnit.host w 128#32) 0#32 = 0#1 := by
    generalize IntOp.remsi ArithUnit.host w 128#32 = r at hr ⊢
    have hm : r.toNat < 128 := hr ▸ Nat.mod_lt _ (by norm_num)
    have hi : r.toInt = (r.toNat : ℤ) := by rw [BitVec.toInt_eq_toNat_cond, if_pos (by omega)]
    show BitVec.ofBool (r.slt 0#32) = 0#1
    have hb : r.slt 0#32 = false := by
      rw [BitVec.slt, hi]
      simp
    rw [hb]
    rfl
  rw [hlt, e0]
  have ea : ∀ b : BitVec 1, IntOp.andi (IntOp.cmpi CmpIPredicate.ne (0#1 : BitVec 1) 0#1) b = 0#1 := by decide
  rw [ea, ValueIdx.select_zero]
  exact hr

/-- The mask at one element: 1 where the lane is the index's remainder by 128, 0 elsewhere. -/
theorem mask_at (hidx : ∀ j, (words0 m c j).toNat < 999936) (r : Fin 25600) :
    (V3 m c main_v8 : S1x25600.Idx → EReal) (ix2 0 r) = (if (words0 m c (ix1 ⟨r.val / 128, by omega⟩)).toNat % 128 = r.val % 128 then (1 : EReal) else 0) := by
  have e : V3 m c main_v8 = shapeCast S1x25600 (uitofp (F := Ideal) .f32 (cmpi .eq
      (broadcastInDim S200x128 ![0, 1] bcast_S200x1_S200x128_0_1 (V2 m c main_v1 : (⟨S200x1, .i32⟩ : BufTy).Contents (Elt Ideal)))
      (broadcastInDim S200x128 ![0, 1] bcast_S1x128_S200x128_0_1 (broadcastInDim S1x128 ![1] bcast_S128_S1x128_1 (iotaInDim S128 32 0))))) shapeCasts_S200x128_S1x25600 := by
    unfold_abbrev_sides
    after_results
    rfl
  have ex : broadcastInDim S200x1 ![0] bcast_S200_S200x1_0 (words0 m c) (ix2 ⟨r.val / 128, by omega⟩ 0) = words0 m c (ix1 ⟨r.val / 128, by omega⟩) := by
    pointwise
  have ef := floors_at (broadcastInDim S200x1 ![0] bcast_S200_S200x1_0 (words0 m c)) ⟨r.val / 128, by omega⟩ (by rw [ex]; exact hidx _)
  rw [ex] at ef
  rw [e, rem_eq]
  generalize floors (broadcastInDim S200x1 ![0] bcast_S200_S200x1_0 (words0 m c)) = Z at ef ⊢
  pointwise
  rw [← ef]
  generalize Z (ix2 ⟨r.val / 128, by omega⟩ 0) = z
  have hz : z = BitVec.ofNat 32 (r.val % 128) ↔ z.toNat = r.val % 128 := by
    rw [← BitVec.toNat_inj, BitVec.toNat_ofNat, Nat.mod_eq_of_lt (show r.val % 128 < 2 ^ 32 by omega)]
  by_cases hq : z = BitVec.ofNat 32 (r.val % 128)
  · rw [if_pos (hz.1 hq), ← hq]
    simp [IntOp.cmpi, FloatOps.uitofp]
  · rw [if_neg fun q => hq (hz.2 q)]
    have : IntOp.cmpi CmpIPredicate.eq z (BitVec.ofNat 32 (r.val % 128)) = 0#1 := by
      show BitVec.ofBool (z == _) = _
      rw [beq_eq_false_iff_ne.2 hq]; rfl
    rw [this]
    simp [FloatOps.uitofp]

end Cert.Proof.KernelIdeal

end
-- ==== Proof.KernelIdeal.Mean.lean ====
/- The mean the first point makes: the mask picks each index's own column out of its block, so the sum is over the rows the indices name. -/
module

public import proofs.«01_k».proof.Proof.KernelIdeal.Host
public import proofs.«01_k».proof.Proof.KernelIdeal.Frame
public import Idealize.ShloMosaic.Lib.Pipeline.ValueKit

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.ShloMosaic.Pipeline (Window)

section Mask
variable (adm : (pcfg0 (F := Ideal)).Adm)
variable (V : (c : Dev nD) → (b : Ref sig .tc) → Buf (Elt Ideal) ((c : Thread nD τ).loc b))

/-- The mask is one block. -/
theorem index0_0 (t : Fin grid0.N) : (win0 adm 0).index t (1 : Fin 2) = 0 := by
  rcases fin_N0 t with rfl | rfl | rfl | rfl | rfl | rfl | rfl | rfl | rfl | rfl | rfl | rfl | rfl <;> rfl

/-- A lane of the mask lies where it is. -/
theorem emb0_0 (t : Fin grid0.N) (y : ((win0 adm 0).xblock (grid0.coords t)).Idx) :
    ((((cfg0 adm).win 0).blk t).view.emb y (1 : Fin 2)).val = (y (1 : Fin 2)).val := by
  blk_simp
  rw [show ((cfg0 adm).win 0).index t (1 : Fin 2) = 0 from index0_0 adm t]; omega

/-- The mask's block is the whole mask. -/
theorem stg_mask (c : Dev nD) (r : Fin 25600) :
    (stg0 adm V c 0 (⟨0, by decide⟩ : Fin grid0.N) : S1x25600.Idx → EReal) (ix2 (0 : Fin 1) r) = (V c main_v8 : S1x25600.Idx → EReal) (ix2 (0 : Fin 1) r) := by
  show ((win0 adm 0).fill (grid0.coords (⟨0, by decide⟩ : Fin grid0.N)) _ (blk0 adm V c 0 (⟨0, by decide⟩ : Fin grid0.N)) (ix2 (0 : Fin 1) r) : EReal) = _
  unfold Window.fill
  rw [dif_pos (((win0 adm 0).moved_iff _ _).mpr fun (a : Fin 2) => by
    rcases (show a = 0 ∨ a = 1 by omega) with rfl | rfl
    · exact (0 : Fin 1).isLt
    · exact r.isLt)]
  show (V c main_v8 : S1x25600.Idx → EReal) _ = _
  refine congrArg (V c main_v8 : S1x25600.Idx → EReal) (funext fun (a : Fin 2) => Fin.ext ?_)
  rcases (show a = 0 ∨ a = 1 by omega) with rfl | rfl
  · rfl
  · exact emb0_0 adm _ _

end Mask

/-- A sum over blocks of 128 lanes in which each block keeps one lane is the sum of the lanes kept. -/
theorem sum_onehot (g : ℕ → ℕ → EReal) (p : ℕ → ℕ) (hp : ∀ j, p j < 128) :
    (∑ r : Fin 25600, g (r.val / 128) (r.val % 128) * (if p (r.val / 128) = r.val % 128 then (1 : EReal) else 0)) = ∑ j : Fin 200, g j.val (p j.val) := by
  refine (Fin.sum_univ_mul_divmod 200 128 fun a b => g a b * (if p a = b then (1 : EReal) else 0)).trans ?_
  refine Finset.sum_congr rfl fun a _ => ?_
  rw [Finset.sum_eq_single (⟨p a.val, hp _⟩ : Fin 128)]
  · rw [if_pos rfl, mul_one]
  · intro b _ hb
    rw [if_neg fun e => hb (Fin.ext e.symm), mul_zero]
  · exact fun h => absurd (Finset.mem_univ _) h

section Launch
variable (m : (ℓ : Loc nD τ sig) → Buf (Elt Ideal) ℓ)
variable (hidx : ∀ j, (idx0 (admOf m 0) j).toNat < 999936)

/-- The row an index names, among the table's rows. -/
def rowOf (w : BitVec 32) : Fin 1000000 := ⟨w.toNat % 1000000, Nat.mod_lt _ (by norm_num)⟩

/-- The mean is a 200th of the sum of the rows the indices name. -/
theorem mean_at (k : Fin 64) : mean0 (admOf m 0) (Vals.at (V3 m)) hidx core (ix2 k 0)
    = (∑ j : Fin 200, table0 m core (ix2 (rowOf (words0 m core (ix1 j))) k)) * ((200⁻¹ : ℝ) : EReal) := by
  have hw : ∀ j, (words0 m core j).toNat < 999936 := fun j => by have := hidx j; rwa [idx0_eq m] at this
  unfold mean0
  rw [pay3_at]
  refine congrArg (· * ((200⁻¹ : ℝ) : EReal)) ?_
  let q : ℕ → ℕ := fun j => if h : j < 200 then (words0 m core (ix1 ⟨j, h⟩)).toNat else 0
  have hq : ∀ j, q j < 999936 := fun j => by
    show (if h : j < 200 then (words0 m core (ix1 ⟨j, h⟩)).toNat else 0) < 999936
    split
    · exact hw _
    · norm_num
  let g : ℕ → ℕ → EReal := fun j l => table0 m core (ix2 ⟨(128 * (q j / 128) + l) % 1000000, Nat.mod_lt _ (by norm_num)⟩ k)
  refine Eq.trans (Finset.sum_congr rfl fun r _ => ?_) ((sum_onehot g (fun j => q j % 128) fun j => Nat.mod_lt _ (by norm_num)).trans (Finset.sum_congr rfl fun j _ => ?_))
  · have hr : r.val / 128 < 200 := by have := r.isLt; omega
    have eq1 : q (r.val / 128) = (words0 m core (ix1 ⟨r.val / 128, hr⟩)).toNat := dif_pos hr
    rw [stg_mask]
    refine congrArg₂ (fun a b : EReal => a * b) ?_ ?_
    · have ew : (idx0 (admOf m 0) (ValueIdx.ix1 ⟨r.val / 128, hr⟩)).toNat = q (r.val / 128) := by
        rw [eq1, idx0_eq m]; rfl
      have hb := hq (r.val / 128)
      refine Eq.trans ?_ ((emb_at m core k ⟨(128 * (q (r.val / 128) / 128) + r.val % 128) % 1000000, Nat.mod_lt _ (by norm_num)⟩).trans rfl)
      show (V3 m core main_v9 : S64x1000000.Idx → EReal) _ = _
      refine congrArg (V3 m core main_v9 : S64x1000000.Idx → EReal) (funext fun (a : Fin 2) => Fin.ext ?_)
      rcases (show a = 0 ∨ a = 1 by omega) with rfl | rfl
      · rfl
      · show 128 * ((idx0 (admOf m 0) (ValueIdx.ix1 ⟨r.val / 128, _⟩)).toNat / 128) + r.val % 128 = (128 * (q (r.val / 128) / 128) + r.val % 128) % 1000000
        rw [ew, Nat.mod_eq_of_lt (show 128 * (q (r.val / 128) / 128) + r.val % 128 < 1000000 by omega)]
    · refine (mask_at m core hw r).trans ?_
      show _ = if q (r.val / 128) % 128 = _ then _ else _
      rw [eq1]
  · have eq1 : q j.val = (words0 m core (ix1 j)).toNat := dif_pos j.isLt
    show table0 m core (ix2 ⟨(128 * (q j.val / 128) + q j.val % 128) % 1000000, _⟩ k) = _
    refine congrArg (fun n => table0 m core (ix2 n k)) (Fin.ext ?_)
    show (128 * (q j.val / 128) + q j.val % 128) % 1000000 = (words0 m core (ix1 j)).toNat % 1000000
    rw [eq1, Nat.div_add_mod]

end Launch

end Cert.Proof.KernelIdeal

end
-- ==== Proof.KernelIdeal.Result.lean ====
/- What the kernel's run leaves: each logit less the logarithm of the sum of exponentials. -/
module

public import proofs.«01_k».proof.Proof.KernelIdeal.Mean
public import proofs.«01_k».proof.Proof.KernelIdeal.Frame

@[expose] public section

set_option maxRecDepth 8192

noncomputable section

namespace Cert.Proof.KernelIdeal

open Cert.KernelIdeal Cert.KernelIdeal.Gen
open Idealize.ShloMosaic Idealize.ShloMosaic.TcCoe
open Idealize.SL.Sem

variable (m : (ℓ : Loc nD τ sig) → Buf (Elt Ideal) ℓ)
variable (hidx : ∀ j, (idx0 (admOf m 0) j).toNat < 999936)

/-- The mean column, the transposed weights and the bias row the first call works on. -/
abbrev meanK := mean0 (admOf m 0) (Vals.at (V3 m)) hidx core
/-- The transposed weights. -/
abbrev wtsK := wts0 (Vals.at (V3 m)) core
/-- The bias row. -/
abbrev biasK := bias0 (Vals.at (V3 m)) core

/-- The second call's result, where the first left the logits and the word. -/
theorem res_known (o : Out0 Ideal)
    (ho : known m (exactP (admOf m 0) (Vals.at (V3 m)) hidx) (exact3 (admOf m 0) (Vals.at (V3 m)) hidx) (exact4 (admOf m 0) (Vals.at (V3 m)) hidx) (fun _ => false) o core) (n : Fin 1000000) :
    (res1 (aft0 (V3 m) o) core : S1x1000000.Idx → EReal) (ix2 0 n)
      = lgc (meanK m hidx) (wtsK m) (biasK m) n.val - (mxr (meanK m hidx) (wtsK m) (biasK m) 13 + Ideal.log (smr (meanK m hidx) (wtsK m) (biasK m) 13)) := by
  have h3 : rowAt (aft0 (V3 m) o) core = logits (admOf m 0) (Vals.at (V3 m)) hidx core :=
    (aft0_0 (V3 m) o core).trans ((ho.1 rfl).trans (arr0_3 (admOf m 0) (Vals.at (V3 m)) hidx core))
  have h4 : wordAt (aft0 (V3 m) o) core = exact4 (admOf m 0) (Vals.at (V3 m)) hidx core :=
    (aft0_1 (V3 m) o core).trans ((ho.2 rfl).trans (arr0_4 (admOf m 0) (Vals.at (V3 m)) hidx core))
  rw [res1_eq, h3, h4]
  rfl

/-- The run, with its result. -/
theorem run_exact (g : Dev nD → PrngReg) :
    θ_run defs (onTc (τ := τ) (main (F := Ideal))) ⟨m, fun _ => 0, g⟩ (fun r => ∀ c : Dev nD,
      (∀ n : Fin 1000000, (r.2.mem ((c.tc : Thread nD τ).loc main_v13) : S1x1000000.Idx → EReal) (ix2 0 n)
        = lgc (meanK m hidx) (wtsK m) (biasK m) n.val - (mxr (meanK m hidx) (wtsK m) (biasK m) 13 + Ideal.log (smr (meanK m hidx) (wtsK m) (biasK m) 13)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run _ _ _).mono (fun r h c => ?_)
    (run m (exactP (admOf m 0) (Vals.at (V3 m)) hidx) (exact3 (admOf m 0) (Vals.at (V3 m)) hidx) (exact4 (admOf m 0) (Vals.at (V3 m)) hidx) (fun _ => false) ⟨rfl, rfl, rfl⟩
      (fun _ _ _ h => absurd rfl h) (fun c => body0_exact (admOf m 0) (Vals.at (V3 m)) hidx c) g)
  obtain ⟨hargs, o, ho, hv⟩ := h.1 c
  obtain rfl := core_eq c
  refine ⟨fun n => ?_, hargs⟩
  rw [hv]
  exact res_known m hidx o ho n

end Cert.Proof.KernelIdeal

end
-- ==== Proof.ReferenceIdeal.Logits.lean ====
/- The reference's logits: the rows the indices name, their mean, and the product with the weights. -/
module

public import proofs.«01_k».proof.Proof.Gen.ReferenceIdeal.Run
public import Idealize.ShloMosaic.Lib.Pointwise
public import Idealize.ShloMosaic.Lib.ValueIdx
public import Idealize.ShloMosaic.Lib.Routing.Ops

@[expose] public section

set_option maxRecDepth 8192

noncomputable section

namespace Cert.Proof.ReferenceIdeal

open Cert.ReferenceIdeal Cert.ReferenceIdeal.Gen
open Idealize.ShloMosaic Idealize.ShloMosaic.TcCoe Idealize.ShloMosaic.Tactic

/-- The column of indices, negative ones counted from the end. -/
abbrev wrap (X : IVec S200 32) : IVec S200x1 32 :=
  broadcastInDim S200x1 ![0] bcast_S200_S200x1_0 (select (cmpi .slt X (broadcastInDim S200 ![] bcast_S_S200 (constantI S_ 32 0#32))) (addi X (broadcastInDim S200 ![] bcast_S_S200 (constantI S_ 32 1000000#32))) X)

/-- Which indices name a row of the table. -/
abbrev named (X : IVec S200 32) : IVec S200 1 :=
  Host.reduce IntOp.andi (andi (cmpi .sge (wrap X) (broadcastInDim S200x1 ![] bcast_S_S200x1 (constantI S_ 32 0#32))) (cmpi .sle (wrap X) (broadcastInDim S200x1 ![0, 1] bcast_S1x1_S200x1_0_1 (broadcastInDim S1x1 ![1] bcast_S1_S1x1_1 (constantI S1 32 999999#32))))) (constantI S_ 1 1#1) reducesTo_S200x1_S200_d1 h_S_

/-- The rows taken from the table. -/
abbrev taken (X : IVec S200 32) (T : FVec Ideal S1000000x64 .f32) : FVec Ideal S200x64 .f32 :=
  select (broadcastInDim S200x64 ![0] bcast_S200_S200x64_0 (named X)) (Host.gather gather_S1000000x64_S200x1_S200x64_1_0_n_n_0_1_164 T (wrap X)) (broadcastInDim S200x64 ![] bcast_S_S200x64 (constant S_ .f32 0x7FC00000#32))

/-- The mean of the rows taken. -/
abbrev meanR (X : IVec S200 32) (T : FVec Ideal S1000000x64 .f32) : FVec Ideal S64 .f32 :=
  Host.divf (Host.reduceAdd (taken X T) (constant S_ .f32 0x00000000#32) reducesTo_S200x64_S64_d0 h_S_) (broadcastInDim S64 ![] bcast_S_S64 (constant S_ .f32 0x43480000#32))

/-- The logits. -/
abbrev lg (X : IVec S200 32) (T W : FVec Ideal S1000000x64 .f32) (B : FVec Ideal S1000000 .f32) : FVec Ideal S1x1000000 .f32 :=
  addf (Host.dotGeneral dot_S1x64_S64x1000000_S1x1000000_1_0_0_1_n_n none (shapeCast _ (meanR X T) shapeCasts_S64_S1x64) (transpose S64x1000000 [1, 0] W transposes_S1000000x64_S64x1000000_1_0)) (broadcastInDim S1x1000000 ![1] bcast_S1000000_S1x1000000_1 B)

/-- The largest logit, as the reference makes it. -/
abbrev top (Y : FVec Ideal S1x1000000 .f32) : FVec Ideal S1 .f32 :=
  maximumf (broadcastInDim S1 ![] bcast_S_S1 (constant S_ .f32 0xFF800000#32)) (Host.reduce FloatOps.maximumf Y (constant S_ .f32 0xFF800000#32) reducesTo_S1x1000000_S1_d1 h_S_)

/-- The logits less the largest. -/
abbrev shifted (Y : FVec Ideal S1x1000000 .f32) : FVec Ideal S1x1000000 .f32 :=
  subf Y (broadcastInDim S1x1000000 ![0, 1] bcast_S1x1_S1x1000000_0_1 (broadcastInDim S1x1 ![0] bcast_S1_S1x1_0 (top Y)))

/-- The logarithm of the sum of the exponentials. -/
abbrev logsum (Z : FVec Ideal S1x1000000 .f32) : FVec Ideal S1x1 .f32 :=
  Host.log (broadcastInDim S1x1 ![0] bcast_S1_S1x1_0 (Host.reduceAdd (Host.exp Z) (constant S_ .f32 0x00000000#32) reducesTo_S1x1000000_S1_d1 h_S_))

/-- The reference's result, in those parts. -/
theorem res_eq (m : (ℓ : Loc nD τ sig) → Buf (Elt Ideal) ℓ) (c : Dev nD) : Value.res_main_v9 m c =
    subf (shifted (lg (m ((c : Thread nD τ).loc main_arg0)) (m ((c : Thread nD τ).loc main_arg1)) (m ((c : Thread nD τ).loc main_arg2)) (m ((c : Thread nD τ).loc main_arg3))))
      (broadcastInDim S1x1000000 ![0, 1] bcast_S1x1_S1x1000000_0_1 (logsum (shifted (lg (m ((c : Thread nD τ).loc main_arg0)) (m ((c : Thread nD τ).loc main_arg1)) (m ((c : Thread nD τ).loc main_arg2)) (m ((c : Thread nD τ).loc main_arg3)))))) := by
  unfold Value.res_main_v9
  rfl

/-- A nonnegative index is taken as it is. -/
theorem wrap_at (X : IVec S200 32) (j : Fin 200) (h : (X (ix1 j)).toNat < 999936) : wrap X (ix2 j 0) = X (ix1 j) := by
  pointwise
  generalize X (ix1 j) = w at h ⊢
  have hi : w.toInt = (w.toNat : ℤ) := by rw [BitVec.toInt_eq_toNat_cond, if_pos (by omega)]
  have e : IntOp.cmpi CmpIPredicate.slt w 0#32 = 0#1 := by
    show BitVec.ofBool (w.slt 0#32) = 0#1
    rw [show w.slt 0#32 = false by rw [BitVec.slt, hi]; simp]
    rfl
  rw [e, ValueIdx.select_zero]

/-- An index in range names a row. -/
theorem named_at (X : IVec S200 32) (j : Fin 200) (h : (X (ix1 j)).toNat < 999936) : named X (ix1 j) = 1#1 := by
  have hw := wrap_at X j h
  unfold named
  generalize wrap X = Z at hw ⊢
  pointwise
  rw [show (Finset.univ : Finset (Fin 1)) = {0} from rfl, Finset.fold_singleton, hw]
  generalize X (ix1 j) = w at h ⊢
  have hi : w.toInt = (w.toNat : ℤ) := by rw [BitVec.toInt_eq_toNat_cond, if_pos (by omega)]
  have e0 : IntOp.cmpi CmpIPredicate.sge w 0#32 = 1#1 := by
    show BitVec.ofBool (BitVec.sle 0#32 w) = 1#1
    rw [show BitVec.sle 0#32 w = true by rw [BitVec.sle, hi]; simp]
    rfl
  have e1 : IntOp.cmpi CmpIPredicate.sle w 999999#32 = 1#1 := by
    show BitVec.ofBool (BitVec.sle w 999999#32) = 1#1
    rw [show BitVec.sle w 999999#32 = true by
      rw [BitVec.sle, hi]
      exact decide_eq_true (show (w.toNat : ℤ) ≤ 999999 by omega)]
    rfl
  rw [e0, e1]
  decide

/-- The row an index in range names is the row taken. -/
theorem taken_at (X : IVec S200 32) (T : FVec Ideal S1000000x64 .f32) (j : Fin 200) (k : Fin 64) (h : (X (ix1 j)).toNat < 999936) :
    taken X T (ix2 j k) = T (ix2 ⟨(X (ix1 j)).toNat % 1000000, Nat.mod_lt _ (by norm_num)⟩ k) := by
  have hn := named_at X j h
  have hw := wrap_at X j h
  unfold taken
  generalize wrap X = Z at hw ⊢
  generalize named X = N at hn ⊢
  pointwise
  rw [hn, ValueIdx.select_one]
  refine Routing.gather_row _ rfl rfl rfl rfl rfl T Z j k ⟨(X (ix1 j)).toNat % 1000000, Nat.mod_lt _ (by norm_num)⟩ ?_ (by norm_num)
  refine hw.trans ?_
  show _ = BitVec.ofNat 32 ((X (ix1 j)).toNat % 1000000)
  rw [Nat.mod_eq_of_lt (by omega), BitVec.ofNat_toNat, BitVec.setWidth_eq]

/-- The reference's mean. -/
theorem meanR_at (X : IVec S200 32) (T : FVec Ideal S1000000x64 .f32) (k : Fin 64) : meanR X T (ix1 k) = (∑ j : Fin 200, taken X T (ix2 j k)) * ((200⁻¹ : ℝ) : EReal) := by
  unfold meanR
  generalize taken X T = Y
  pointwise
  have e : Ideal.ofBits .f32 1128792064#32 = ((200 : ℝ) : EReal) := by
    simp [Ideal.ofBits, Ideal.ieee]
    rw [← EReal.coe_mul]
    norm_num
  rw [e, Ideal.div_coe (by norm_num)]
  norm_num

/-- The reference's logit. -/
theorem lg_at (X : IVec S200 32) (T W : FVec Ideal S1000000x64 .f32) (B : FVec Ideal S1000000 .f32) (n : Fin 1000000) :
    lg X T W B (ix2 0 n) = (∑ k : Fin 64, meanR X T (ix1 k) * W (ix2 n k)) + B (ix1 n) := by
  unfold lg
  generalize meanR X T = Y
  pointwise

/-- The logarithm of the sum of the exponentials, as one sum. -/
theorem logsum_at (Y : FVec Ideal S1x1000000 .f32) : logsum Y (ix2 0 0) = Ideal.log (∑ n : Fin 1000000, Ideal.exp (Y (ix2 0 n))) := by
  pointwise

end Cert.Proof.ReferenceIdeal

end
-- ==== Proof.ReferenceIdeal.Softmax.lean ====
/- The reference's normalisation: a logit less the largest, less the logarithm of the sum of the exponentials. -/
module

public import proofs.«01_k».proof.Proof.ReferenceIdeal.Logits
public import Idealize.ShloMosaic.Lib.Pointwise
public import Idealize.ShloMosaic.Lib.ValueIdx
public import Idealize.ShloMosaic.Lib.Routing.Ops

@[expose] public section

set_option maxRecDepth 8192

noncomputable section

namespace Cert.Proof.ReferenceIdeal

open Cert.ReferenceIdeal Cert.ReferenceIdeal.Gen
open Idealize.ShloMosaic Idealize.ShloMosaic.TcCoe Idealize.ShloMosaic.Tactic

/-- The host's reduction is the fold of the maximum. -/
theorem red_at (Y : FVec Ideal S1x1000000 .f32) : Host.reduce FloatOps.maximumf Y (constant S_ .f32 0xFF800000#32) reducesTo_S1x1000000_S1_d1 h_S_ (ix1 0) = Finset.fold max (Ideal.ofBits FTy.f32 4286578688#32) (fun x => Y (ix2 0 x)) Finset.univ := by
  pointwise

/-- The maximum with the least value. -/
theorem capped_at (q : FVec Ideal S1 .f32) : maximumf (broadcastInDim S1 ![] bcast_S_S1 (constant S_ .f32 0xFF800000#32)) q (ix1 0) = max (Ideal.ofBits FTy.f32 4286578688#32) (q (ix1 0)) := by
  pointwise

/-- The largest logit. -/
theorem topred_at (Y : FVec Ideal S1x1000000 .f32) : top Y (ix1 0) = max (Ideal.ofBits FTy.f32 4286578688#32) (Host.reduce FloatOps.maximumf Y (constant S_ .f32 0xFF800000#32) reducesTo_S1x1000000_S1_d1 h_S_ (ix1 0)) :=
  capped_at _

/-- The result at one column. -/
theorem out_at (Y : FVec Ideal S1x1000000 .f32) (n : Fin 1000000) :
    (subf (shifted Y) (broadcastInDim S1x1000000 ![0, 1] bcast_S1x1_S1x1000000_0_1 (logsum (shifted Y)))) (ix2 0 n) = Y (ix2 0 n) - top Y (ix1 0) - logsum (shifted Y) (ix2 0 0) := by
  generalize logsum (shifted Y) = Q
  unfold shifted
  generalize top Y = q
  pointwise

/-- The bits of minus infinity denote the least value. -/
theorem ofBits_least : Ideal.ofBits FTy.f32 4286578688#32 = (⊥ : EReal) := by
  simp [Ideal.ofBits, Ideal.ieee]

/-- The largest logit, as a maximum over the columns. -/
theorem top_at (Y : FVec Ideal S1x1000000 .f32) : top Y (ix1 0) = Finset.univ.sup fun n : Fin 1000000 => (Y (ix2 0 n) : EReal) := by
  refine (topred_at Y).trans ?_
  rw [red_at, ofBits_least]
  exact bot_sup_eq _

/-- The logits less the largest, at one column. -/
theorem shifted_at (Y : FVec Ideal S1x1000000 .f32) (n : Fin 1000000) : shifted Y (ix2 0 n) = Y (ix2 0 n) - top Y (ix1 0) := by
  unfold shifted
  generalize top Y = q
  pointwise

/-- The result at one column, of the logits. -/
theorem result_at (Y : FVec Ideal S1x1000000 .f32) (n : Fin 1000000) :
    (subf (shifted Y) (broadcastInDim S1x1000000 ![0, 1] bcast_S1x1_S1x1000000_0_1 (logsum (shifted Y)))) (ix2 0 n)
      = Y (ix2 0 n) - (Finset.univ.sup fun n : Fin 1000000 => (Y (ix2 0 n) : EReal))
        - Ideal.log (∑ i : Fin 1000000, Ideal.exp (Y (ix2 0 i) - Finset.univ.sup fun n : Fin 1000000 => (Y (ix2 0 n) : EReal))) := by
  rw [out_at, logsum_at, ← top_at]
  exact congrArg (fun s => (Y (ix2 0 n) - top Y (ix1 0) : EReal) - Ideal.log s) (Finset.sum_congr rfl fun i _ => congrArg Ideal.exp (shifted_at Y i))

end Cert.Proof.ReferenceIdeal

end
-- ==== Proof.Online.lean ====
/- The running maximum and the running sum of exponentials, over logits that are real inside the vocabulary, come to the maximum and
the sum over the whole row. -/
module

public import proofs.«01_k».proof.Proof.KernelIdeal.Exact

@[expose] public section

noncomputable section

namespace Cert.Proof.Online

open Idealize.ShloMosaic
open Cert.Proof.KernelIdeal (mxr smr)

/-- The exponential of an extended real below the top, as a real. -/
def rexp (x : EReal) (a : ℝ) : ℝ := if x = ⊥ then 0 else Real.exp (x.toReal - a)

/-- The exponential of a difference is that real. -/
theorem exp_sub {x : EReal} (hx : x ≠ ⊤) (a : ℝ) : Ideal.exp (x - (a : EReal)) = ((rexp x a : ℝ) : EReal) := by
  unfold rexp
  induction x with
  | bot => rw [if_pos rfl, EReal.bot_sub]; rfl
  | top => exact absurd rfl hx
  | coe r => rw [if_neg (EReal.coe_ne_bot r), ← EReal.coe_sub, Ideal.exp_coe, EReal.toReal_coe]

/-- Changing the reference point of an exponential. -/
theorem rexp_mul (x : EReal) (a b : ℝ) : rexp x a * Real.exp (a - b) = rexp x b := by
  unfold rexp
  split
  · simp
  · rw [← Real.exp_add]; congr 1; ring

/-- A sum of reals, as extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A sum of exponentials is rescaled from one reference point to another. -/
theorem rescale {ι : Type} (s : Finset ι) (f : ι → EReal) (hf : ∀ i, f i ≠ ⊤) (a b : ℝ) :
    (∑ i ∈ s, Ideal.exp (f i - (a : EReal))) * Ideal.exp ((a : EReal) - (b : EReal)) = ∑ i ∈ s, Ideal.exp (f i - (b : EReal)) := by
  rw [← EReal.coe_sub, Ideal.exp_coe]
  rw [Finset.sum_congr rfl fun i _ => exp_sub (hf i) a, Finset.sum_congr rfl fun i _ => exp_sub (hf i) b, ← coe_sum, ← coe_sum, ← EReal.coe_mul, Finset.sum_mul]
  exact congrArg _ (Finset.sum_congr rfl fun i _ => rexp_mul _ _ _)

/-- A maximum over values below the top, one of them real, is real. -/
theorem sup_real {ι : Type} (s : Finset ι) (f : ι → EReal) (hf : ∀ i, f i ≠ ⊤) (i : ι) (hi : i ∈ s) (hb : f i ≠ ⊥) : ∃ r : ℝ, s.sup f = r := by
  have h1 : s.sup f ≠ ⊤ := by
    have : s.sup f < ⊤ := (Finset.sup_lt_iff (bot_lt_top)).2 fun j _ => lt_top_iff_ne_top.2 (hf j)
    exact this.ne
  have h2 : s.sup f ≠ ⊥ := fun h => hb (le_bot_iff.1 (h ▸ Finset.le_sup (f := f) hi))
  exact ⟨(s.sup f).toReal, (EReal.coe_toReal h1 h2).symm⟩

section Row
variable (M : Cert.KernelIdeal.S64x1.Idx → EReal) (W : Cert.KernelIdeal.S64x1000000.Idx → EReal) (B : Cert.KernelIdeal.S1x1000000.Idx → EReal)

/-- The logits by column number. -/
abbrev L (n : ℕ) : EReal := Cert.Proof.KernelIdeal.lgc M W B n

/-- The running maximum is the maximum of the columns so far. -/
theorem mxr_eq (n : ℕ) : mxr M W B n = (Finset.range (81920 * n)).sup (L M W B) := by
  induction n with
  | zero => rfl
  | succ n ih =>
    show max (mxr M W B n) _ = _
    rw [ih]
    apply le_antisymm
    · refine max_le (Finset.sup_mono (Finset.range_mono (by omega))) (Finset.sup_le fun j _ => ?_)
      exact Finset.le_sup (f := L M W B) (Finset.mem_range.2 (by have := j.isLt; omega))
    · refine Finset.sup_le fun i hi => ?_
      have hi := Finset.mem_range.1 hi
      by_cases h : i < 81920 * n
      · exact le_max_of_le_left (Finset.le_sup (f := L M W B) (Finset.mem_range.2 h))
      · refine le_max_of_le_right ?_
        have e : L M W B i = L M W B (81920 * n + (⟨i - 81920 * n, by omega⟩ : Fin 81920).val) := congrArg _ (by simp only; omega)
        rw [e]
        exact Finset.le_sup (f := fun j : Fin 81920 => L M W B (81920 * n + j.val)) (Finset.mem_univ _)

variable (h0 : L M W B 0 ≠ ⊥) (ht : ∀ n, L M W B n ≠ ⊤)
include h0 ht

/-- After the first block the running maximum is real. -/
theorem mxr_real (n : ℕ) : ∃ r : ℝ, mxr M W B (n + 1) = r := by
  rw [mxr_eq]
  exact sup_real _ _ ht 0 (Finset.mem_range.2 (by omega)) h0

/-- The running sum is the sum of the exponentials of the columns so far. -/
theorem smr_eq (n : ℕ) : smr M W B n = ∑ i ∈ Finset.range (81920 * n), Ideal.exp (L M W B i - mxr M W B n) := by
  induction n with
  | zero => rfl
  | succ n ih =>
    show smr M W B n * Ideal.exp (mxr M W B n - mxr M W B (n + 1)) + _ = _
    have e : smr M W B n * Ideal.exp (mxr M W B n - mxr M W B (n + 1)) = ∑ i ∈ Finset.range (81920 * n), Ideal.exp (L M W B i - mxr M W B (n + 1)) := by
      cases n with
      | zero => show (0 : EReal) * _ = _; rw [zero_mul]; rfl
      | succ n =>
        rw [ih]
        obtain ⟨a, ha⟩ := mxr_real M W B h0 ht n
        obtain ⟨b, hb⟩ := mxr_real M W B h0 ht (n + 1)
        rw [ha, hb]
        exact rescale _ _ ht a b
    rw [e, show 81920 * (n + 1) = 81920 * n + 81920 by ring, Finset.sum_range_add]
    exact congrArg _ (Finset.sum_range fun j => Ideal.exp (L M W B (81920 * n + j) - mxr M W B (n + 1))).symm

omit h0 ht in
/-- Past the vocabulary there is nothing. -/
theorem L_past (n : ℕ) (h : 1000000 ≤ n) : L M W B n = ⊥ := dif_neg (by omega)

omit h0 ht in
/-- The maximum over all blocks is the maximum over the vocabulary. -/
theorem sup_row : mxr M W B 13 = Finset.univ.sup fun n : Fin 1000000 => L M W B n.val := by
  rw [mxr_eq]
  apply le_antisymm
  · refine Finset.sup_le fun i _ => ?_
    by_cases h : i < 1000000
    · exact Finset.le_sup (f := fun n : Fin 1000000 => L M W B n.val) (Finset.mem_univ (⟨i, h⟩ : Fin 1000000))
    · rw [L_past M W B i (by omega)]
      exact bot_le
  · exact Finset.sup_le fun i _ => Finset.le_sup (f := L M W B) (Finset.mem_range.2 (by have := i.isLt; omega))

/-- The sum over all blocks is the sum over the vocabulary. -/
theorem sum_row : smr M W B 13 = ∑ n : Fin 1000000, Ideal.exp (L M W B n.val - mxr M W B 13) := by
  rw [smr_eq M W B h0 ht]
  rw [show 81920 * 13 = 1000000 + 64960 by norm_num, Finset.sum_range_add]
  have e : (∑ x ∈ Finset.range 64960, Ideal.exp (L M W B (1000000 + x) - mxr M W B 13)) = 0 := by
    refine Finset.sum_eq_zero fun x _ => ?_
    rw [L_past M W B _ (by omega), EReal.bot_sub]
    rfl
  rw [e, add_zero]
  generalize mxr M W B 13 = a
  exact Finset.sum_range fun j => Ideal.exp (L M W B j - a)

/-- Subtracting the logarithm of the sum of exponentials at once, or in two steps. -/
theorem split_row (n : ℕ) : L M W B n - (mxr M W B 13 + Ideal.log (smr M W B 13)) = L M W B n - mxr M W B 13 - Ideal.log (smr M W B 13) := by
  obtain ⟨a, ha⟩ := mxr_real M W B h0 ht 12
  have hs : ∃ s : ℝ, 0 < s ∧ smr M W B 13 = s := by
    rw [smr_eq M W B h0 ht, ha, Finset.sum_congr rfl fun i _ => exp_sub (ht i) a, ← coe_sum]
    refine ⟨_, ?_, rfl⟩
    refine Finset.sum_pos' (fun i _ => ?_) ⟨0, Finset.mem_range.2 (by norm_num), ?_⟩
    · unfold rexp; split
      · exact le_rfl
      · exact (Real.exp_pos _).le
    · unfold rexp; rw [if_neg h0]
      exact Real.exp_pos _
  obtain ⟨s, hs, e⟩ := hs
  rw [e, ha, Ideal.log_coe, if_neg (not_le.2 hs)]
  generalize L M W B n = y
  induction y with
  | bot => rw [EReal.bot_sub, EReal.bot_sub, EReal.bot_sub]
  | top => rw [← EReal.coe_add, EReal.top_sub_coe, EReal.top_sub_coe, EReal.top_sub_coe]
  | coe y =>
    rw [← EReal.coe_add, ← EReal.coe_sub, ← EReal.coe_sub, ← EReal.coe_sub]
    exact congrArg _ (sub_add_eq_sub_sub _ _ _)

end Row

end Cert.Proof.Online

end
-- ==== Proof.Value.lean ====
/- The kernel's result is the reference's: the logarithm of the softmax of the logits of the mean row. -/
module

public import proofs.«01_k».proof.Defs
public import proofs.«01_k».proof.Proof.KernelIdeal.Mean
public import proofs.«01_k».proof.Proof.KernelIdeal.Result
public import proofs.«01_k».proof.Proof.ReferenceIdeal.Softmax
public import proofs.«01_k».proof.Proof.Online
public import proofs.«01_k».proof.Proof.PreFinite

@[expose] public section

set_option maxRecDepth 8192

noncomputable section

namespace Cert.Proof.Value

open Cert.Proof.KernelIdeal
open Idealize.ShloMosaic Idealize.ShloMosaic.TcCoe
open Idealize.SL.Sem

section Kernel
variable (m : (ℓ : Loc Cert.KernelIdeal.nD Cert.KernelIdeal.τ Cert.KernelIdeal.sig) → Buf (Elt Ideal) ℓ)
variable (hidx : ∀ j, (idx0 (admOf m 0) j).toNat < 999936)

/-- The kernel's logits are the reference's. -/
theorem logit_eq (n : Fin 1000000) :
    lgc (mean0 (admOf m 0) (Vals.at (Cert.KernelIdeal.Gen.V3 m)) hidx core) (wts0 (Vals.at (Cert.KernelIdeal.Gen.V3 m)) core) (bias0 (Vals.at (Cert.KernelIdeal.Gen.V3 m)) core) n.val
      = ReferenceIdeal.lg (words0 m core) (table0 m core) (wtab0 m core) (bvec0 m core) (ix2 0 n) := by
  have hw : ∀ j, (words0 m core j).toNat < 999936 := fun j => by have := hidx j; rwa [idx0_eq m] at this
  rw [ReferenceIdeal.lg_at]
  unfold lgc
  rw [dif_pos n.isLt]
  refine congrArg₂ (fun a b : EReal => a + b) (Finset.sum_congr rfl fun k _ => congrArg₂ (fun a b : EReal => a * b) ?_ ?_) ?_
  · rw [mean_at, ReferenceIdeal.meanR_at]
    refine congrArg (fun s : EReal => s * ((200⁻¹ : ℝ) : EReal)) (Finset.sum_congr rfl fun j _ => ?_)
    exact (ReferenceIdeal.taken_at (words0 m core) (table0 m core) j k (hw _)).symm
  · exact wts_at m core k n
  · exact bias_at m core n

end Kernel

/-- A finite sum of reals is real. -/
theorem sum_real {ι : Type} (s : Finset ι) (f : ι → EReal) (h : ∀ i, ∃ r : ℝ, f i = r) : ∃ r : ℝ, (∑ i ∈ s, f i) = r := by
  choose g hg using h
  exact ⟨∑ i ∈ s, g i, by rw [Online.coe_sum]; exact Finset.sum_congr rfl fun i _ => hg i⟩

/-- A product of reals is real. -/
theorem mul_real {a b : EReal} (ha : ∃ r : ℝ, a = r) (hb : ∃ r : ℝ, b = r) : ∃ r : ℝ, a * b = r := by
  obtain ⟨x, rfl⟩ := ha
  obtain ⟨y, rfl⟩ := hb
  exact ⟨x * y, (EReal.coe_mul x y).symm⟩

/-- A sum of two reals is real. -/
theorem add_real {a b : EReal} (ha : ∃ r : ℝ, a = r) (hb : ∃ r : ℝ, b = r) : ∃ r : ℝ, a + b = r := by
  obtain ⟨x, rfl⟩ := ha
  obtain ⟨y, rfl⟩ := hb
  exact ⟨x + y, (EReal.coe_add x y).symm⟩

/-- Over finite arguments a logit is real. -/
theorem logit_real (X : IVec Cert.ReferenceIdeal.S200 32) (T W : FVec Ideal Cert.ReferenceIdeal.S1000000x64 .f32) (B : FVec Ideal Cert.ReferenceIdeal.S1000000 .f32)
    (hX : ∀ j, (X j).toNat < 999936) (hT : ∀ i, ∃ r : ℝ, T i = (r : EReal)) (hW : ∀ i, ∃ r : ℝ, W i = (r : EReal)) (hB : ∀ i, ∃ r : ℝ, B i = (r : EReal)) (n : Fin 1000000) :
    ∃ r : ℝ, ReferenceIdeal.lg X T W B (ix2 0 n) = (r : EReal) := by
  rw [ReferenceIdeal.lg_at]
  refine add_real (sum_real _ _ fun k => mul_real ?_ (hW _)) (hB _)
  rw [ReferenceIdeal.meanR_at]
  refine mul_real (sum_real _ _ fun j => ?_) ⟨_, rfl⟩
  rw [ReferenceIdeal.taken_at X T j k (hX _)]
  exact hT _

section Row
variable (M : Cert.KernelIdeal.S64x1.Idx → EReal) (W : Cert.KernelIdeal.S64x1000000.Idx → EReal) (B : Cert.KernelIdeal.S1x1000000.Idx → EReal)
variable (Y : FVec Ideal Cert.ReferenceIdeal.S1x1000000 .f32)

/-- A logit less the kernel's word is the reference's normalised logit. -/
theorem row_eq (hY : ∀ n : Fin 1000000, lgc M W B n.val = Y (ix2 0 n)) (hr : ∀ n : Fin 1000000, ∃ r : ℝ, Y (ix2 0 n) = (r : EReal)) (n : Fin 1000000) :
    lgc M W B n.val - (mxr M W B 13 + Ideal.log (smr M W B 13))
      = Y (ix2 0 n) - (Finset.univ.sup fun n : Fin 1000000 => (Y (ix2 0 n) : EReal))
        - Ideal.log (∑ i : Fin 1000000, Ideal.exp (Y (ix2 0 i) - Finset.univ.sup fun n : Fin 1000000 => (Y (ix2 0 n) : EReal))) := by
  have h0 : Online.L M W B 0 ≠ ⊥ := by
    obtain ⟨r, e⟩ := hr 0
    have e2 := (hY 0).trans e
    intro hb
    exact EReal.coe_ne_bot r (e2.symm.trans hb)
  have ht : ∀ k, Online.L M W B k ≠ ⊤ := fun k => by
    by_cases hk : k < 1000000
    · obtain ⟨r, e⟩ := hr ⟨k, hk⟩
      have e2 := (hY ⟨k, hk⟩).trans e
      intro hb
      exact EReal.coe_ne_top r (e2.symm.trans hb)
    · rw [Online.L_past M W B k (by omega)]
      exact bot_ne_top
  have es : mxr M W B 13 = Finset.univ.sup fun n : Fin 1000000 => (Y (ix2 0 n) : EReal) :=
    (Online.sup_row M W B).trans (Finset.sup_congr rfl fun k _ => hY k)
  refine (Online.split_row M W B h0 ht n.val).trans ?_
  rw [Online.sum_row M W B h0 ht, es]
  generalize (Finset.univ.sup fun n : Fin 1000000 => (Y (ix2 0 n) : EReal)) = a
  refine congrArg₂ (fun p q : EReal => p - a - Ideal.log q) (hY n) (Finset.sum_congr rfl fun k _ => ?_)
  exact congrArg (fun p : EReal => Ideal.exp (p - a)) (hY k)

end Row

/-- The kernel's result is the reference's. -/
theorem algebraic : Cert.algebraic_KernelIdeal_ReferenceIdeal_pre_in_table_finite := by
  intro m g m' g' hm hargs
  have hX : ∀ j, (words0 m core j).toNat < 999936 := Pre.finite_range (hm core).1
  have hidx : ∀ j, (idx0 (admOf m 0) j).toNat < 999936 := fun j => by rw [idx0_eq m]; exact hX j
  refine ⟨fun c => Cert.ReferenceIdeal.Value.res_main_v9 m' c, ?_, Cert.ReferenceIdeal.Value.run m' g'⟩
  refine (θ_run _ _ _).mono (fun r h c => ⟨?_, (h c).2⟩) (run_exact m hidx g)
  obtain rfl := core_eq c
  obtain ⟨a0, a1, a2, a3⟩ := hargs core
  refine funext fun (i : Cert.ReferenceIdeal.S1x1000000.Idx) => ?_
  obtain ⟨n, rfl⟩ : ∃ n : Fin 1000000, i = ix2 0 n := ⟨i 1, funext fun (a : Fin 2) => by
    rcases (show a = 0 ∨ a = 1 by omega) with rfl | rfl
    · exact Subsingleton.elim (α := Fin 1) _ _
    · rfl⟩
  refine ((h core).1 n).trans ?_
  refine Eq.trans ?_ ((congrFun (ReferenceIdeal.res_eq m' core) (ix2 0 n)).trans (ReferenceIdeal.result_at _ n)).symm
  rw [a0, a1, a2, a3]
  exact row_eq (meanK m hidx) (wtsK m) (biasK m) _ (logit_eq m hidx)
    (logit_real _ _ _ _ hX (Pre.table_real (hm core).2.1) (Pre.weights_real (hm core).2.2.1) (Pre.bias_real (hm core).2.2.2)) n

end Cert.Proof.Value

end
-- ==== Proof.lean ====
/- The five claims, assembled. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Pre
public import proofs.«01_k».proof.Proof.Kernel.Frame
public import proofs.«01_k».proof.Proof.KernelIdeal.Frame
public import proofs.«01_k».proof.Proof.PreFinite
public import proofs.«01_k».proof.Proof.Value
public import Idealize.ShloMosaic.Adequacy
public import Idealize.ShloMosaic.Init

@[expose] public section

noncomputable section

namespace Cert.Proof

open Idealize.ShloMosaic Idealize.SL.Sem

/-- The reference has no semaphore. -/
theorem ref_no_sems (s : GSem Cert.ReferenceIdeal.nD Cert.ReferenceIdeal.τ Cert.ReferenceIdeal.sig) : False := by
  have h : ∀ sm : SemLoc Cert.ReferenceIdeal.sig, False := by decide
  exact h s.2

/-- The kernel's frame. -/
theorem frame_kernel : Cert.quiescent_Kernel := fun m g hm =>
  Kernel.frame m (Pre.table_range (hm Kernel.core)) g

/-- The idealised kernel's frame. -/
theorem frame_kernelIdeal : Cert.quiescent_KernelIdeal := fun m g hm =>
  KernelIdeal.frame m (Pre.table_range (hm KernelIdeal.core)) g

/-- The idealised kernel's frame, over finite arguments. -/
theorem frame_kernelIdeal_finite : Cert.quiescent_KernelIdeal_pre_in_table_finite := fun m g hm =>
  KernelIdeal.frame m (Pre.finite_range (hm KernelIdeal.core).1) g

/-- The reference's frame. -/
theorem frame_referenceIdeal : Cert.quiescent_ReferenceIdeal := fun m g _ =>
  (θ_run _ _ _).mono (fun _ h => ⟨fun c => (h c).2, funext fun s => (ref_no_sems s).elim⟩) (Cert.ReferenceIdeal.Value.run m g)

/-- The reference's frame, over finite arguments. -/
theorem frame_referenceIdeal_finite : Cert.quiescent_ReferenceIdeal_pre_in_table_finite := fun m g _ =>
  (θ_run _ _ _).mono (fun _ h => ⟨fun c => (h c).2, funext fun s => (ref_no_sems s).elim⟩) (Cert.ReferenceIdeal.Value.run m g)

/-- The named constant stands for the number 1/200. -/
theorem preserves : Cert.preserves_Kernel_KernelIdeal := IdealRules.named_const.statement _ _ _ _ _ rfl

/-- All the claims. -/
theorem claim : Cert.Claim :=
  ⟨Cert.Kernel.Gen.facts, Cert.KernelIdeal.Gen.facts, Cert.ReferenceIdeal.Gen.facts, Pre.factsTable, Pre.factsFinite,
    frame_kernel, frame_kernelIdeal, frame_kernelIdeal_finite, frame_referenceIdeal, frame_referenceIdeal_finite, preserves, Value.algebraic⟩

end Cert.Proof

end
